-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_grad [hPre_finite_grad : Cert.Pre_finite_grad.Facts] (m : (ℓ : Loc Cert.KernelIdeal.nD Cert.KernelIdeal.τ Cert.KernelIdeal.sig) → Buf (Elt Ideal) ℓ) : Prop :=
  ∀ c : Dev Cert.KernelIdeal.nD,
    (Cert.Pre_finite_grad.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_grad [hPre_finite_grad : Cert.Pre_finite_grad.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_grad.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_grad [hKernelIdeal : Cert.KernelIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_grad m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_grad [hReferenceIdeal : Cert.ReferenceIdeal.Facts] [hPre_finite_grad : Cert.Pre_finite_grad.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_grad m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "kc" .f32 0x3D122279#32 (((Real.sqrt (2 * Real.pi⁻¹)) * (8943 / 200000) : ℝ) : EReal)
  ∧ IdealRules.named_const.Statement Cert.KernelIdeal.κ "k" .f32 0x3F4C422A#32 ((Real.sqrt (2 * Real.pi⁻¹) : ℝ) : EReal)
  ∧ IdealRules.named_const.Statement Cert.KernelIdeal.κ "kc_three_halves" .f32 0x3D5B33B6#32 ((((3 / 2) * (Real.sqrt (2 * Real.pi⁻¹))) * (8943 / 200000) : ℝ) : EReal)
  ∧ IdealRules.named_const.Statement Cert.KernelIdeal.κ "half_k" .f32 0x3ECC422A#32 (((1 / 2) * (Real.sqrt (2 * Real.pi⁻¹)) : ℝ) : EReal)

def algebraic_KernelIdeal_ReferenceIdeal_pre_finite_grad [hKernelIdeal : Cert.KernelIdeal.Facts] [hReferenceIdeal : Cert.ReferenceIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_grad m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_grad : Cert.Pre_finite_grad.Facts),
    quiescent_Kernel (hKernel := hKernel)
    ∧ quiescent_KernelIdeal (hKernelIdeal := hKernelIdeal)
    ∧ quiescent_KernelIdeal_pre_finite_grad (hKernelIdeal := hKernelIdeal) (hPre_finite_grad := hPre_finite_grad)
    ∧ quiescent_ReferenceIdeal (hReferenceIdeal := hReferenceIdeal)
    ∧ quiescent_ReferenceIdeal_pre_finite_grad (hReferenceIdeal := hReferenceIdeal) (hPre_finite_grad := hPre_finite_grad)
    ∧ preserves_Kernel_KernelIdeal
    ∧ algebraic_KernelIdeal_ReferenceIdeal_pre_finite_grad (hKernelIdeal := hKernelIdeal) (hReferenceIdeal := hReferenceIdeal) (hPre_finite_grad := hPre_finite_grad)
-- ==== Pre_finite_grad.lean ====
abbrev S12800x12288 : Shape := ⟨2, ![12800, 12288]⟩
abbrev S_ : Shape := ⟨0, ![]⟩

class Facts : Prop where
  bitsLt_bf16_f32 : FTy.bits .bf16 < FTy.bits .f32
  bcast_S_S12800x12288 : S_.BroadcastsInDim S12800x12288 (![] : Fin 0 → Fin S12800x12288.rank)
  reducesTo_S12800x12288_S_d0_1 : S12800x12288.ReducesTo [0, 1] S_
  h_S_ : 0 < S_.numel

variable [Facts]

def fn {F : FTy → Type} [FloatOps F] (main_arg0 : FVec F S12800x12288 .bf16) (main_arg1 : FVec F S12800x12288 .bf16) : IVec S_ 1 :=
  let main_v0 : FVec F S12800x12288 .f32 := (extf .f32 · bitsLt_bf16_f32) main_arg0
  let main_v1 : FVec F S12800x12288 .f32 := Host.absf main_v0
  let main_cst : FVec F S_ .f32 := constant S_ .f32 0x7F7F0000#32
  let main_v2 : FVec F S12800x12288 .f32 := broadcastInDim S12800x12288 ![] bcast_S_S12800x12288 main_cst
  let main_v3 : IVec S12800x12288 1 := cmpf .ole main_v1 main_v2
  let main_c : IVec S_ 1 := constantI S_ 1 1#1
  let main_v4 : IVec S_ 1 := (fun x v => Host.reduce IntOp.andi x v reducesTo_S12800x12288_S_d0_1 h_S_) main_v3 main_c
  main_v4
-- ==== Kernel.lean ====
abbrev S12800x12288 : Shape := ⟨2, ![12800, 12288]⟩
abbrev S1x12288 : Shape := ⟨2, ![1, 12288]⟩
abbrev S12800x96 : Shape := ⟨2, ![12800, 96]⟩
abbrev S12288x12800 : Shape := ⟨2, ![12288, 12800]⟩
abbrev S12288x100 : Shape := ⟨2, ![12288, 100]⟩
abbrev S128x12288 : Shape := ⟨2, ![128, 12288]⟩
abbrev S128x96 : Shape := ⟨2, ![128, 96]⟩
abbrev S12288x128 : Shape := ⟨2, ![12288, 128]⟩
abbrev S96x128x128 : Shape := ⟨3, ![96, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x1x128 : Shape := ⟨3, ![1, 1, 128]⟩
abbrev S1x128x128 : Shape := ⟨3, ![1, 128, 128]⟩
abbrev S128x100 : Shape := ⟨2, ![128, 100]⟩
abbrev S12288 : Shape := ⟨1, ![12288]⟩

abbrev nBuf : Space → Nat
  | .hbm => 8
  | .vmem => 13
  | .smem => 0
  | _ => 0

abbrev bufTy : (tb : Table) → Fin (tcTables nBuf tb) → BufTy
  | .hbm, ⟨0, _⟩ => ⟨S12800x12288, .bf16⟩
  | .hbm, ⟨1, _⟩ => ⟨S12800x12288, .bf16⟩
  | .hbm, ⟨2, _⟩ => ⟨S1x12288, .f32⟩
  | .hbm, ⟨3, _⟩ => ⟨S12800x12288, .fp8e5m2⟩
  | .hbm, ⟨4, _⟩ => ⟨S12800x96, .f32⟩
  | .hbm, ⟨5, _⟩ => ⟨S12288x12800, .fp8e5m2⟩
  | .hbm, ⟨6, _⟩ => ⟨S12288x100, .f32⟩
  | .hbm, ⟨7, _⟩ => ⟨S12288, .f32⟩
  | .local _ .vmem, ⟨0, _⟩ => ⟨S128x12288, .bf16⟩
  | .local _ .vmem, ⟨1, _⟩ => ⟨S128x12288, .bf16⟩
  | .local _ .vmem, ⟨2, _⟩ => ⟨S128x12288, .bf16⟩
  | .local _ .vmem, ⟨3, _⟩ => ⟨S128x12288, .bf16⟩
  | .local _ .vmem, ⟨4, _⟩ => ⟨S1x12288, .f32⟩
  | .local _ .vmem, ⟨5, _⟩ => ⟨S128x12288, .fp8e5m2⟩
  | .local _ .vmem, ⟨6, _⟩ => ⟨S128x12288, .fp8e5m2⟩
  | .local _ .vmem, ⟨7, _⟩ => ⟨S128x96, .f32⟩
  | .local _ .vmem, ⟨8, _⟩ => ⟨S128x96, .f32⟩
  | .local _ .vmem, ⟨9, _⟩ => ⟨S12288x128, .fp8e5m2⟩
  | .local _ .vmem, ⟨10, _⟩ => ⟨S12288x128, .fp8e5m2⟩
  | .local _ .vmem, ⟨11, _⟩ => ⟨S12288x100, .f32⟩
  | .local _ .vmem, ⟨12, _⟩ => ⟨S96x128x128, .f32⟩
  | _, _ => ⟨S12800x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![100], ![false]⟩

@[reducible] def k0_t1_loop : Scf.Loop 32 :=
  let c0_i32_1 : BitVec 32 := 0#32
  let c96_i32 : BitVec 32 := 96#32
  let v5 : BitVec 32 := Scalar.addi c0_i32_1 c96_i32
  let c1_i32 : BitVec 32 := 1#32
  ⟨c0_i32_1, v5, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v12 : BitVec 32 := Scalar.muli arg9 c128_i32
  v12
def k0_off1 (k0_t1 : Fin k0_t1_loop.trips) : Fin 2 → Nat :=
  let c0_5 : Index := 0#32
  let c0_i32_1 : BitVec 32 := 0#32
  let c1_i32 : BitVec 32 := 1#32
  let arg9 : BitVec 32 := Scf.iv c0_i32_1 c1_i32 k0_t1
  let c128_i32 : BitVec 32 := 128#32
  let v12 : BitVec 32 := Scalar.muli arg9 c128_i32
  let v13 : BitVec 32 := v12
  let v14 : Index := Scalar.indexCast v13
  ![0, v14.toNat]
def k0_off2 (k0_t1 : Fin k0_t1_loop.trips) : Fin 2 → Nat :=
  let c0_14 : Index := 0#32
  let c0_i32_1 : BitVec 32 := 0#32
  let c1_i32 : BitVec 32 := 1#32
  let arg9 : BitVec 32 := Scf.iv c0_i32_1 c1_i32 k0_t1
  let c128_i32 : BitVec 32 := 128#32
  let v12 : BitVec 32 := Scalar.muli arg9 c128_i32
  let v13 : BitVec 32 := v12
  let v41 : Index := Scalar.indexCast v13
  ![0, v41.toNat]
def k0_off3 (i : grid0.Coords) (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let v205 : Index := Scalar.indexCast arg9
  let arg0 : BitVec 32 := BitVec.ofNat 32 (i 0).val
  let v206 : Index := Scalar.indexCast arg0
  let c0_58 : Index := 0#32
  ![v205.toNat, v206.toNat, 0]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v12 : BitVec 32 := Scalar.muli arg9 c128_i32
  let v13 : BitVec 32 := v12
  let v218 : Index := Scalar.indexCast v13
  let c0_61 : Index := 0#32
  ![v218.toNat, 0]
def k0_cond2 (i : grid0.Coords) : BitVec 1 :=
  let arg0 : BitVec 32 := BitVec.ofNat 32 (i 0).val
  let c99_i32 : BitVec 32 := 99#32
  let v9 : BitVec 1 := Scalar.cmpi .eq arg0 c99_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_5 : BitVec 32 := 0#32
  let c96_i32_6 : BitVec 32 := 96#32
  let v12 : BitVec 32 := Scalar.addi c0_i32_5 c96_i32_6
  let c1_i32_7 : BitVec 32 := 1#32
  ⟨c0_i32_5, v12, c1_i32_7⟩
def k0_mult2 (k0_t2 : Fin k0_t2_loop.trips) : BitVec 32 :=
  let c0_i32_5 : BitVec 32 := 0#32
  let c1_i32_7 : BitVec 32 := 1#32
  let arg9 : BitVec 32 := Scf.iv c0_i32_5 c1_i32_7 k0_t2
  let c128_i32 : BitVec 32 := 128#32
  let v13 : BitVec 32 := Scalar.muli arg9 c128_i32
  v13
def k0_off5 (k0_t2 : Fin k0_t2_loop.trips) : Fin 3 → Nat :=
  let c0_i32_5 : BitVec 32 := 0#32
  let c1_i32_7 : BitVec 32 := 1#32
  let arg9 : BitVec 32 := Scf.iv c0_i32_5 c1_i32_7 k0_t2
  let v15 : Index := Scalar.indexCast arg9
  let c0_9 : Index := 0#32
  let c0_10 : Index := 0#32
  ![v15.toNat, 0, 0]
def k0_off6 (k0_t2 : Fin k0_t2_loop.trips) : Fin 2 → Nat :=
  let c0_i32_5 : BitVec 32 := 0#32
  let c1_i32_7 : BitVec 32 := 1#32
  let arg9 : BitVec 32 := Scf.iv c0_i32_5 c1_i32_7 k0_t2
  let c128_i32 : BitVec 32 := 128#32
  let v13 : BitVec 32 := Scalar.muli arg9 c128_i32
  let v14 : BitVec 32 := v13
  let v20 : Index := Scalar.indexCast v14
  let c0_11 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12288 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12288x128 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S12288x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "half_k" => some (((1 / 2) * (Real.sqrt (2 * Real.pi⁻¹)) : ℝ) : EReal)
  | "k" => some ((Real.sqrt (2 * Real.pi⁻¹) : ℝ) : EReal)
  | "kc" => some (((Real.sqrt (2 * Real.pi⁻¹)) * (8943 / 200000) : ℝ) : EReal)
  | "kc_three_halves" => some ((((3 / 2) * (Real.sqrt (2 * Real.pi⁻¹))) * (8943 / 200000) : ℝ) : EReal)
  | _ => none
-- ==== ReferenceIdeal.lean ====
abbrev S12800x12288 : Shape := ⟨2, ![12800, 12288]⟩
abbrev S12288 : Shape := ⟨1, ![12288]⟩
abbrev S12800x96 : Shape := ⟨2, ![12800, 96]⟩
abbrev S12288x12800 : Shape := ⟨2, ![12288, 12800]⟩
abbrev S12288x100 : Shape := ⟨2, ![12288, 100]⟩
abbrev S12800x96x128 : Shape := ⟨3, ![12800, 96, 128]⟩
abbrev S12800x96x1 : Shape := ⟨3, ![12800, 96, 1]⟩
abbrev S100x128x12288 : Shape := ⟨3, ![100, 128, 12288]⟩
abbrev S100x12288 : Shape := ⟨2, ![100, 12288]⟩
abbrev S100x1x12288 : Shape := ⟨3, ![100, 1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S12800x12288, .bf16⟩
  | .hbm, ⟨1, _⟩ => ⟨S12800x12288, .bf16⟩
  | .hbm, ⟨2, _⟩ => ⟨S12288, .f32⟩
  | .hbm, ⟨3, _⟩ => ⟨S12800x12288, .fp8e5m2⟩
  | .hbm, ⟨4, _⟩ => ⟨S12800x96, .f32⟩
  | .hbm, ⟨5, _⟩ => ⟨S12288x12800, .fp8e5m2⟩
  | .hbm, ⟨6, _⟩ => ⟨S12288x100, .f32⟩
  | .local _ .vmem, ⟨0, _⟩ => ⟨S12800x12288, .bf16⟩
  | .local _ .vmem, ⟨1, _⟩ => ⟨S12800x12288, .bf16⟩
  | .local _ .vmem, ⟨2, _⟩ => ⟨S12288, .f32⟩
  | .local _ .vmem, ⟨3, _⟩ => ⟨S12800x12288, .fp8e5m2⟩
  | .local _ .vmem, ⟨4, _⟩ => ⟨S12800x96, .f32⟩
  | .local _ .vmem, ⟨5, _⟩ => ⟨S12288x12800, .fp8e5m2⟩
  | .local _ .vmem, ⟨6, _⟩ => ⟨S12288x100, .f32⟩
  | _, _ => ⟨S12800x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c" => some ((8943 / 200000 : ℝ) : EReal)
  | "k" => some ((Real.sqrt (2 * Real.pi⁻¹) : ℝ) : EReal)
  | "log2_e" => some (((Real.log 2)⁻¹ : ℝ) : EReal)
  | "three_c" => some ((26829 / 200000 : ℝ) : EReal)
  | _ => none

abbrev grid0 : Pipeline.Grid := .none

abbrev stage0_0 : Fin 1 → Memref sig .tc .vmem S12800x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12800x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12800x12288 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12800x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x12800 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Tile.lean ====
/- What one grid point of the kernel computes, as functions of its two input blocks: the 128x128 tile of trip `k`,
   the tile's codes, scales and column sums, and each output block put together from its 96 tiles. -/
module

public import proofs.«01_k».proof.Proof.Gen.Kernel.Skeleton
public import Idealize.ShloMosaic.Lib.Pipeline.FrameBody
public import Idealize.ShloMosaic.Lib.ValueIdxCoords

@[expose] public section

set_option maxRecDepth 16384

noncomputable section

namespace Cert.Kernel.Hand

open Idealize.ShloMosaic Cert.Kernel Cert.Kernel.Gen
open Idealize.ShloMosaic.ValueIdx (ix1 ix2 ix3)

variable {F : FTy → Type} [FloatOps F]

/-- The first loop makes 96 trips, one per 128 columns. -/
theorem trips1 : k0_t1_loop.trips = 96 := by decide +kernel
/-- The second loop makes 96 trips, one per 128 columns. -/
theorem trips2 : k0_t2_loop.trips = 96 := by decide +kernel

/-- The tile of column `c`. -/
def tk (c : Fin 12288) : Fin k0_t1_loop.trips := ⟨c.val / 128, by rw [trips1]; have := c.isLt; omega⟩
/-- The tile of column `c`, as a trip of the second loop. -/
def tk2 (c : Fin 12288) : Fin k0_t2_loop.trips := ⟨c.val / 128, by rw [trips2]; have := c.isLt; omega⟩
/-- The place of column `c` within its tile. -/
def tl (c : Fin 12288) : Fin 128 := ⟨c.val % 128, Nat.mod_lt _ (by decide)⟩
/-- Tile `j` as a trip of the first loop. -/
def tj (j : Fin 96) : Fin k0_t1_loop.trips := ⟨j.val, by rw [trips1]; exact j.isLt⟩

/-! ## The offsets of the loads and stores -/

theorem off1_eq : ∀ k : Fin k0_t1_loop.trips, k0_off1 k = ![0, 128 * k.val] := by decide +kernel
theorem off2_eq : ∀ k : Fin k0_t1_loop.trips, k0_off2 k = ![0, 128 * k.val] := by decide +kernel
theorem off4_eq : ∀ k : Fin k0_t1_loop.trips, k0_off4 k = ![128 * k.val, 0] := by decide +kernel
theorem off5_eq : ∀ k : Fin k0_t2_loop.trips, k0_off5 k = ![k.val, 0, 0] := by decide +kernel
theorem off6_eq : ∀ k : Fin k0_t2_loop.trips, k0_off6 k = ![128 * k.val, 0] := by decide +kernel
theorem off3_eq (i : grid0.Coords) (k : Fin k0_t1_loop.trips) : k0_off3 i k = ![k.val, (i 0).val, 0] := by
  have h1 : ∀ k : Fin k0_t1_loop.trips, (Scalar.indexCast (Scf.iv 0#32 1#32 k) : Index).toNat = k.val := by decide +kernel
  have h2 : ∀ a : Fin 100, (Scalar.indexCast (BitVec.ofNat 32 a.val) : Index).toNat = a.val := by decide +kernel
  show ![(Scalar.indexCast (Scf.iv 0#32 1#32 k) : Index).toNat, (Scalar.indexCast (BitVec.ofNat 32 (i 0).val) : Index).toNat, 0] = _
  rw [h1 k, h2 (i 0)]

/-- Every slab the second loop loads lies in the scratch. -/
theorem inb5 : ∀ (k : Fin k0_t2_loop.trips) (a : Fin 3), k0_off5 k a + S1x128x128.size a ≤ S96x128x128.size a := by decide +kernel

/-! ## One tile -/

section Tile
variable (x0 x1 : Vec F S128x12288 .bf16) (k : Fin k0_t1_loop.trips)

/-- The tile of an input block trip `k` loads. -/
def gT (x : Vec F S128x12288 .bf16) (k : Fin k0_t1_loop.trips) : Vec F S128x128 .bf16 :=
  View.ld x (Rect.unit (s := S128x12288) (k0_off1 k) S128x128.size (k0_off1_inb k))
/-- The derivative times the gradient on the tile. -/
def dT : FVec F S128x128 .f32 := k0_pay9 (gT x0 k) (gT x1 k)
/-- The row maxima over 57344. -/
def rvT : FVec F S128x1 .f32 := k0_pay12 (gT x0 k) (gT x1 k)
/-- The row scales. -/
def rsT : FVec F S128x1 .f32 := k0_pay17 (rvT x0 x1 k) (k0_pay13 (rvT x0 x1 k) 0#32) (k0_pay14 (rvT x0 x1 k) 0#32) k0_pay15
/-- The row codes. -/
def rcT : FVec F S128x128 .fp8e5m2 :=
  k0_pay18 (dT x0 x1 k) (rvT x0 x1 k) (k0_pay13 (rvT x0 x1 k) 0#32) (k0_pay14 (rvT x0 x1 k) 0#32) k0_pay15
/-- The column maxima over 57344. -/
def cvT : FVec F S1x128 .f32 := k0_pay19 (k0_pay11 (gT x0 k) (gT x1 k))
/-- The first step of the column exponents' search. -/
def cbT : IVec S1x128 32 := k0_pay20 (k0_pay11 (gT x0 k) (gT x1 k))
/-- The column scales. -/
def csT : FVec F S1x1x128 .f32 :=
  k0_pay4 (cvT x0 x1 k) (k0_pay21 (cvT x0 x1 k) (cbT x0 x1 k)) (k0_pay22 (cvT x0 x1 k) (cbT x0 x1 k)) (k0_pay23 (cvT x0 x1 k) (cbT x0 x1 k))
/-- The column codes, transposed. -/
def ccT : FVec F S128x128 .fp8e5m2 :=
  k0_pay5 (dT x0 x1 k) (cvT x0 x1 k) (k0_pay21 (cvT x0 x1 k) (cbT x0 x1 k)) (k0_pay22 (cvT x0 x1 k) (cbT x0 x1 k)) (k0_pay23 (cvT x0 x1 k) (cbT x0 x1 k))
/-- The running column sums with the tile's added. -/
def dbT (b : Vec F S1x128 .f32) : FVec F S1x128 .f32 := k0_pay10 (gT x0 k) (gT x1 k) b
/-- The carried row scales with the tile's put in. -/
def accT (acc : FVec F S128x128 .f32) : FVec F S128x128 .f32 := k0_pay6 acc (Scf.iv 0#32 1#32 k) (rsT x0 x1 k)

end Tile

/-! ## The output blocks -/

section Blocks
variable (x0 x1 : Vec F S128x12288 .bf16)

/-- The running column sums at place `l` of tile `k`, from the sums `b` found. -/
def out2At (b : Vec F S1x12288 .f32) (k : Fin k0_t1_loop.trips) (r : Fin 1) (l : Fin 128) : F .f32 :=
  dbT x0 x1 k (View.ld b (Rect.unit (s := S1x12288) (k0_off2 k) S1x128.size (k0_off2_inb k))) (ix2 r l)
/-- The running column sums over the block's 12288 columns, from the sums `b` found. -/
def out2 (b : Vec F S1x12288 .f32) : Vec F S1x12288 .f32 := fun y => out2At x0 x1 b (tk (y 1)) (y 0) (tl (y 1))
/-- The block of row codes. -/
def out3 : Vec F S128x12288 .fp8e5m2 := fun y => rcT x0 x1 (tk (y 1)) (ix2 (y 0) (tl (y 1)))
/-- The block of row scales. -/
def out4 : Vec F S128x96 .f32 := fun y => rsT x0 x1 (tj (y 1)) (ix2 (y 0) (0 : Fin 1))
/-- The block of column codes. -/
def out5 : Vec F S12288x128 .fp8e5m2 := fun y => ccT x0 x1 (tk (y 0)) (ix2 (tl (y 0)) (y 1))
/-- The column scale of column `l` of tile `j`. -/
def csB (j : Fin 96) (l : Fin 128) : F .f32 := csT x0 x1 (tj j) (ix3 (0 : Fin 1) (0 : Fin 1) l)

end Blocks

/-- The column scales of tile `k` written at the last point, from the scratch that collected them. -/
def out6At (s : Vec F S96x128x128 .f32) (k : Fin k0_t2_loop.trips) (l : Fin 128) (r : Fin 100) : F .f32 :=
  k0_pay8 (View.ld s (Rect.unit (s := S96x128x128) (k0_off5 k) S1x128x128.size (inb5 k))) (ix2 l r)
/-- The column scales written at the last point, from the scratch that collected them. -/
def out6 (s : Vec F S96x128x128 .f32) : Vec F S12288x100 .f32 := fun y => out6At s (tk2 (y 0)) (tl (y 0)) (y 1)

end Cert.Kernel.Hand

end
-- ==== Proof.Kernel.Trip.lean ====
/- One trip of each of the kernel's two loops, run over the buffers it touches: the pieces it writes and what it yields. -/
module

public import proofs.«01_k».proof.Proof.Kernel.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (UR sig nD τ) ℕ

/-- One trip of the first loop. -/
theorem trip1 (𝒱 : Variants) (c : Dev nD) (bd : Option 𝒱.V) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f6 : BufTy.Contents (Elt F) arg6.view.ty) (f8 : BufTy.Contents (Elt F) arg8.view.ty)
    (E : Set ℕ) (k : Fin k0_t1_loop.trips) (acc : FVec F S128x128 .f32) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 k acc)
          (fun yld => iprop(⌜yld = accT (arg1.view.read (Elt F) f1) (arg2.view.read (Elt F) f2) k acc⌝
            ∗ (arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} (arg3.view.writes (Elt F) f3 [⟨(Rect.unit (s := S1x12288) (k0_off2 k) S1x128.size (k0_off2_inb k)), dbT (arg1.view.read (Elt F) f1) (arg2.view.read (Elt F) f2) k (View.ld (arg3.view.read (Elt F) f3) (Rect.unit (s := S1x12288) (k0_off2 k) S1x128.size (k0_off2_inb k)))⟩]))
            ∗ (arg4.view.loc (c : Thread nD τ) ↦[arg4.view.set]{fullShare} (arg4.view.writes (Elt F) f4 [⟨(Rect.unit (s := S128x12288) (k0_off1 k) S128x128.size (k0_off1_inb k)), rcT (arg1.view.read (Elt F) f1) (arg2.view.read (Elt F) f2) k⟩]))
            ∗ (arg6.view.loc (c : Thread nD τ) ↦[arg6.view.set]{fullShare} (arg6.view.writes (Elt F) f6 [⟨(Rect.unit (s := S12288x128) (k0_off4 k) S128x128.size (k0_off4_inb k)), ccT (arg1.view.read (Elt F) f1) (arg2.view.read (Elt F) f2) k⟩]))
            ∗ (arg8.view.loc (c : Thread nD τ) ↦[arg8.view.set]{fullShare} (arg8.view.writes (Elt F) f8 [⟨(Rect.unit (s := S96x128x128) (k0_off3 i k) S1x1x128.size (k0_off3_inb i k)), csT (arg1.view.read (Elt F) f1) (arg2.view.read (Elt F) f2) k⟩])))) := by
  have hk : k.val < 96 := Nat.lt_of_lt_of_le k.isLt (le_of_eq trips1)
  unfold k0_t1_body
  iintro ⟨H1, H2, H3, H4, H6, H8⟩
  sl_exec
  sl_step
  isplitr; · ipureintro; rfl
  isplitl [H1]; · iexact H1
  isplitl [H2]; · iexact H2
  isplitl [H3]; · iexact H3
  isplitl [H4]; · iexact H4
  isplitl [H6]; · iexact H6
  iexact H8

/-- One trip of the second loop. -/
theorem trip2 (𝒱 : Variants) (c : Dev nD) (bd : Option 𝒱.V) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (h2 : k0_cond2 i = 1#1) (f7 : BufTy.Contents (Elt F) arg7.view.ty) (f8 : BufTy.Contents (Elt F) arg8.view.ty)
    (E : Set ℕ) (k : Fin k0_t2_loop.trips) :
    (iprop((arg8.view.loc (c : Thread nD τ) ↦[arg8.view.set]{fullShare} f8) ∗ (arg7.view.loc (c : Thread nD τ) ↦[arg7.view.set]{fullShare} f7)) : sProp 𝕄)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 h2 k PUnit.unit)
          (fun _ => iprop((arg8.view.loc (c : Thread nD τ) ↦[arg8.view.set]{fullShare} f8)
            ∗ (arg7.view.loc (c : Thread nD τ) ↦[arg7.view.set]{fullShare} (arg7.view.writes (Elt F) f7 [⟨Rect.unit (s := S12288x100) (k0_off6 k) S128x100.size (k0_off6_inb i k h2), k0_pay8 (View.ld (arg8.view.read (Elt F) f8) (Rect.unit (s := S96x128x128) (k0_off5 k) S1x128x128.size (inb5 k)))⟩])))) := by
  have hk : k.val < 96 := Nat.lt_of_lt_of_le k.isLt (le_of_eq trips2)
  unfold k0_t2_body
  iintro ⟨H8, H7⟩
  sl_exec
  sl_step
  isplitl [H8]; · iexact H8
  iexact H7

end Cert.Kernel.Hand

end
-- ==== Proof.Kernel.Steps.lean ====
/- What the trips of the two loops before trip `k` have left in the buffers they write, element by element, and that one more trip keeps the description. -/
module

public import proofs.«01_k».proof.Proof.Kernel.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import Idealize.ShloMosaic.Lib.Pipeline.ValueKit.Tiles
public import Idealize.ShloMosaic.Lib.Pipeline.Value

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (UR sig nD τ) ℕ

variable (x0 x1 : Vec F S128x12288 .bf16)

/-- Before trip `k`: the column sums of the columns of earlier trips are updated, the others as found. -/
def I2 (b : Vec F S1x12288 .f32) (k : ℕ) (u : Vec F S1x12288 .f32) : Prop :=
  ∀ y : S1x12288.Idx, u y = if (y 1).val / 128 < k then out2 x0 x1 b y else b y
/-- Before trip `k`: the row codes of the earlier trips are in place. -/
def I3 (k : ℕ) (u : Vec F S128x12288 .fp8e5m2) : Prop := ∀ y : S128x12288.Idx, (y 1).val / 128 < k → u y = out3 x0 x1 y
/-- Before trip `k`: the column codes of the earlier trips are in place. -/
def I5 (k : ℕ) (u : Vec F S12288x128 .fp8e5m2) : Prop := ∀ y : S12288x128.Idx, (y 0).val / 128 < k → u y = out5 x0 x1 y
/-- Before trip `k`: row `r` of the scratch slabs of the earlier trips holds the column scales, the rest is as found. -/
def I8 (r : ℕ) (s : Vec F S96x128x128 .f32) (k : ℕ) (u : Vec F S96x128x128 .f32) : Prop :=
  ∀ y : S96x128x128.Idx, u y = if (y 1).val = r ∧ (y 0).val < k then csB x0 x1 (y 0) (y 2) else s y
/-- Before trip `k`: the carried block holds the row scales of the earlier trips, one column each. -/
def Ia (k : ℕ) (acc : FVec F S128x128 .f32) : Prop :=
  ∀ y : S128x128.Idx, ∀ h : (y 1).val < 96, (y 1).val < k → acc y = rsT x0 x1 (tj ⟨(y 1).val, h⟩) (ix2 (y 0) (0 : Fin 1))
/-- Before trip `k` of the second loop: the column scales of the earlier trips are in place. -/
def I7 (s : Vec F S96x128x128 .f32) (k : ℕ) (u : Vec F S12288x100 .f32) : Prop :=
  ∀ y : S12288x100.Idx, (y 0).val / 128 < k → u y = out6 s y

theorem tk_eq {c : Fin 12288} {k : Fin k0_t1_loop.trips} (h : c.val / 128 = k.val) : tk c = k := Fin.ext h
theorem tk2_eq {c : Fin 12288} {k : Fin k0_t2_loop.trips} (h : c.val / 128 = k.val) : tk2 c = k := Fin.ext h

section
variable {sig : RefSig} {κ : Kind} {sp : Space} {x0 x1}

theorem I2.step {b} (k : Fin k0_t1_loop.trips) (v : View sig κ sp S1x12288 .f32) (f : v.ty.Contents (Elt F))
    (h : I2 x0 x1 b k.val (v.read (Elt F) f)) :
    I2 x0 x1 b (k.val + 1) (v.read (Elt F) (v.writes (Elt F) f [⟨(Rect.unit (s := S1x12288) (k0_off2 k) S1x128.size (k0_off2_inb k)), dbT x0 x1 k (View.ld (v.read (Elt F) f) (Rect.unit (s := S1x12288) (k0_off2 k) S1x128.size (k0_off2_inb k)))⟩])) := by
  intro y
  have hld : View.ld (v.read (Elt F) f) (Rect.unit (s := S1x12288) (k0_off2 k) S1x128.size (k0_off2_inb k)) = View.ld b (Rect.unit (s := S1x12288) (k0_off2 k) S1x128.size (k0_off2_inb k)) := by
    funext x
    have hx := h ((Rect.unit (s := S1x12288) (k0_off2 k) S1x128.size (k0_off2_inb k)).idx x)
    have h1 : ((Rect.unit (s := S1x12288) (k0_off2 k) S1x128.size (k0_off2_inb k)).idx x 1).val = 128 * k.val + (x 1).val := by
      rw [Rect.idx_unit_val, congrFun (off2_eq k) 1]; rfl
    rw [if_neg (by rw [h1]; omega)] at hx
    exact hx
  by_cases hy : (y 1).val / 128 = k.val
  · rw [if_pos (by omega)]
    have hm := View.read_writes_cons_unit_of_mem v f (k0_off2_inb k) (dbT x0 x1 k (View.ld (v.read (Elt F) f) (Rect.unit (s := S1x12288) (k0_off2 k) S1x128.size (k0_off2_inb k)))) [] y (ix2 (y 0) (tl (y 1))) (off2_eq k) (by
      intro a
      match a with
      | ⟨0, _⟩ => show (y 0).val = 0 + (y 0).val; omega
      | ⟨1, _⟩ => show (y 1).val = 128 * k.val + (y 1).val % 128; omega)
    rw [hm, hld]
    show _ = out2At x0 x1 b (tk (y 1)) (y 0) (tl (y 1))
    rw [tk_eq hy]; rfl
  · have hm := View.read_writes_cons_unit_of_not_mem v f (k0_off2_inb k) (dbT x0 x1 k (View.ld (v.read (Elt F) f) (Rect.unit (s := S1x12288) (k0_off2 k) S1x128.size (k0_off2_inb k)))) [] y (off2_eq k) 1 (by
      show (y 1).val < 128 * k.val ∨ 128 * k.val + 128 ≤ (y 1).val
      omega)
    rw [hm]
    show v.read (Elt F) f y = _
    rw [h y]
    by_cases hl : (y 1).val / 128 < k.val
    · rw [if_pos hl, if_pos (by omega)]
    · rw [if_neg hl, if_neg (by omega)]

theorem I3.step (k : Fin k0_t1_loop.trips) (v : View sig κ sp S128x12288 .fp8e5m2) (f : v.ty.Contents (Elt F))
    (h : I3 x0 x1 k.val (v.read (Elt F) f)) :
    I3 x0 x1 (k.val + 1) (v.read (Elt F) (v.writes (Elt F) f [⟨(Rect.unit (s := S128x12288) (k0_off1 k) S128x128.size (k0_off1_inb k)), rcT x0 x1 k⟩])) := by
  intro y hlt
  by_cases hy : (y 1).val / 128 = k.val
  · have hm := View.read_writes_cons_unit_of_mem v f (k0_off1_inb k) (rcT x0 x1 k) [] y (ix2 (y 0) (tl (y 1))) (off1_eq k) (by
      intro a
      match a with
      | ⟨0, _⟩ => show (y 0).val = 0 + (y 0).val; omega
      | ⟨1, _⟩ => show (y 1).val = 128 * k.val + (y 1).val % 128; omega)
    rw [hm]
    unfold out3
    rw [tk_eq hy]
  · have hm := View.read_writes_cons_unit_of_not_mem v f (k0_off1_inb k) (rcT x0 x1 k) [] y (off1_eq k) 1 (by
      show (y 1).val < 128 * k.val ∨ 128 * k.val + 128 ≤ (y 1).val
      omega)
    rw [hm]
    exact h y (by omega)

theorem I5.step (k : Fin k0_t1_loop.trips) (v : View sig κ sp S12288x128 .fp8e5m2) (f : v.ty.Contents (Elt F))
    (h : I5 x0 x1 k.val (v.read (Elt F) f)) :
    I5 x0 x1 (k.val + 1) (v.read (Elt F) (v.writes (Elt F) f [⟨(Rect.unit (s := S12288x128) (k0_off4 k) S128x128.size (k0_off4_inb k)), ccT x0 x1 k⟩])) := by
  intro y hlt
  by_cases hy : (y 0).val / 128 = k.val
  · have hm := View.read_writes_cons_unit_of_mem v f (k0_off4_inb k) (ccT x0 x1 k) [] y (ix2 (tl (y 0)) (y 1)) (off4_eq k) (by
      intro a
      match a with
      | ⟨0, _⟩ => show (y 0).val = 128 * k.val + (y 0).val % 128; omega
      | ⟨1, _⟩ => show (y 1).val = 0 + (y 1).val; omega)
    rw [hm]
    unfold out5
    rw [tk_eq hy]
  · have hm := View.read_writes_cons_unit_of_not_mem v f (k0_off4_inb k) (ccT x0 x1 k) [] y (off4_eq k) 0 (by
      show (y 0).val < 128 * k.val ∨ 128 * k.val + 128 ≤ (y 0).val
      omega)
    rw [hm]
    exact h y (by omega)

theorem I7.step {s} (k : Fin k0_t2_loop.trips) (hin : ∀ a, k0_off6 k a + S128x100.size a ≤ S12288x100.size a)
    (v : View sig κ sp S12288x100 .f32) (f : v.ty.Contents (Elt F))
    (h : I7 s k.val (v.read (Elt F) f)) :
    I7 s (k.val + 1) (v.read (Elt F) (v.writes (Elt F) f [⟨Rect.unit (s := S12288x100) (k0_off6 k) S128x100.size hin,
      k0_pay8 (View.ld s (Rect.unit (s := S96x128x128) (k0_off5 k) S1x128x128.size (inb5 k)))⟩])) := by
  intro y hlt
  by_cases hy : (y 0).val / 128 = k.val
  · have hm := View.read_writes_cons_unit_of_mem v f hin (k0_pay8 (View.ld s (Rect.unit (s := S96x128x128) (k0_off5 k) S1x128x128.size (inb5 k)))) [] y (ix2 (tl (y 0)) (y 1)) (off6_eq k) (by
      intro a
      match a with
      | ⟨0, _⟩ => show (y 0).val = 128 * k.val + (y 0).val % 128; omega
      | ⟨1, _⟩ => show (y 1).val = 0 + (y 1).val; omega)
    rw [hm]
    show _ = out6At s (tk2 (y 0)) (tl (y 0)) (y 1)
    rw [tk2_eq hy]; rfl
  · have hm := View.read_writes_cons_unit_of_not_mem v f hin (k0_pay8 (View.ld s (Rect.unit (s := S96x128x128) (k0_off5 k) S1x128x128.size (inb5 k)))) [] y (off6_eq k) 0 (by
      show (y 0).val < 128 * k.val ∨ 128 * k.val + 128 ≤ (y 0).val
      omega)
    rw [hm]
    exact h y (by omega)

theorem I8.step {s} (i : grid0.Coords) (k : Fin k0_t1_loop.trips) (v : View sig κ sp S96x128x128 .f32) (f : v.ty.Contents (Elt F))
    (h : I8 x0 x1 (i 0).val s k.val (v.read (Elt F) f)) :
    I8 x0 x1 (i 0).val s (k.val + 1) (v.read (Elt F) (v.writes (Elt F) f [⟨(Rect.unit (s := S96x128x128) (k0_off3 i k) S1x1x128.size (k0_off3_inb i k)), csT x0 x1 k⟩])) := by
  intro y
  by_cases hy : (y 1).val = (i 0).val ∧ (y 0).val = k.val
  · rw [if_pos (by omega)]
    have hm := View.read_writes_cons_unit_of_mem v f (k0_off3_inb i k) (csT x0 x1 k) [] y (ix3 (0 : Fin 1) (0 : Fin 1) (y 2)) (off3_eq i k) (by
      intro a
      match a with
      | ⟨0, _⟩ => show (y 0).val = k.val + 0; omega
      | ⟨1, _⟩ => show (y 1).val = (i 0).val + 0; omega
      | ⟨2, _⟩ => show (y 2).val = 0 + (y 2).val; omega)
    rw [hm]
    unfold csB
    have : tj (y 0) = k := Fin.ext hy.2
    rw [this]
  · have hm : v.read (Elt F) (v.writes (Elt F) f [⟨(Rect.unit (s := S96x128x128) (k0_off3 i k) S1x1x128.size (k0_off3_inb i k)), csT x0 x1 k⟩]) y = v.read (Elt F) f y := by
      by_cases h1 : (y 1).val = (i 0).val
      · exact View.read_writes_cons_unit_of_not_mem v f (k0_off3_inb i k) (csT x0 x1 k) [] y (off3_eq i k) 0 (by
          show (y 0).val < k.val ∨ k.val + 1 ≤ (y 0).val
          omega)
      · exact View.read_writes_cons_unit_of_not_mem v f (k0_off3_inb i k) (csT x0 x1 k) [] y (off3_eq i k) 1 (by
          show (y 1).val < (i 0).val ∨ (i 0).val + 1 ≤ (y 1).val
          omega)
    rw [hm, h y]
    by_cases hl : (y 1).val = (i 0).val ∧ (y 0).val < k.val
    · rw [if_pos hl, if_pos (by omega)]
    · rw [if_neg hl, if_neg (by omega)]

theorem Ia.step (k : Fin k0_t1_loop.trips) (acc : FVec F S128x128 .f32) (h : Ia x0 x1 k.val acc) :
    Ia x0 x1 (k.val + 1) (accT x0 x1 k acc) := by
  intro y h96 hlt
  have hk : k.val < 96 := Nat.lt_of_lt_of_le k.isLt (le_of_eq trips1)
  have hsel : accT x0 x1 k acc y = Scalar.select (IntOp.cmpi .eq (BitVec.ofNat 32 (y 1).val) (Scf.iv 0#32 1#32 k.val))
      (rsT x0 x1 k (ix2 (y 0) (0 : Fin 1))) (acc y) := by
    show k0_pay6 acc (Scf.iv 0#32 1#32 k.val) (rsT x0 x1 k) y = _
    generalize rsT x0 x1 k = w
    have hb : broadcastTo S128x128 (shapeCast S128x1 w shapeCasts_S128x1_S128x1) broadcasts_S128x1_S128x128 y = w (ix2 (y 0) (0 : Fin 1)) := by
      rw [shapeCast_self]
      exact broadcastTo_apply w _ y _ (fun a => match a with | ⟨0, _⟩ => rfl | ⟨1, _⟩ => rfl)
    have hi : iota .tc S128x128 32 [1] iota_S128x128_d1_w32 y = BitVec.ofNat 32 (y 1).val := iota_single_apply _ _ _ _ _ _
    rw [← hb, ← hi]; rfl
  have hiv : ∀ k : Fin k0_t1_loop.trips, Scf.iv 0#32 1#32 k.val = BitVec.ofNat 32 k.val := by decide +kernel
  have hcmp : ∀ a b : Fin 128, IntOp.cmpi .eq (BitVec.ofNat 32 a.val) (BitVec.ofNat 32 b.val) = if a.val = b.val then 1#1 else 0#1 := by decide +kernel
  rw [hsel, hiv k, hcmp (y 1) ⟨k.val, by omega⟩]
  by_cases hy : (y 1).val = k.val
  · rw [if_pos hy]
    have : tj ⟨(y 1).val, h96⟩ = k := Fin.ext hy
    rw [this]; rfl
  · rw [if_neg hy]
    exact h y h96 (by omega)
end

end Cert.Kernel.Hand

end
-- ==== Proof.Kernel.Loop.lean ====
/- The two loops of the kernel's body, each run whole by its invariant. -/
module

public import proofs.«01_k».proof.Proof.Kernel.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import proofs.«01_k».proof.Proof.Kernel.Trip
public import proofs.«01_k».proof.Proof.Kernel.Steps

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (UR sig nD τ) ℕ

section
variable (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)

/-- The first loop's invariant: the inputs untouched, and of each buffer written what the trips before have left. -/
def inv1 (x0 x1 : Vec F S128x12288 .bf16) (b : Vec F S1x12288 .f32) (s : Vec F S96x128x128 .f32) (k : ℕ) (acc : FVec F S128x128 .f32) : sProp 𝕄 :=
  iprop(owns (c : Thread nD τ) arg1 fullShare x0 ∗ owns (c : Thread nD τ) arg2 fullShare x1 ∗ (∃ u, ⌜I2 x0 x1 b k u⌝ ∗ owns (c : Thread nD τ) arg3 fullShare u) ∗ (∃ u, ⌜I3 x0 x1 k u⌝ ∗ owns (c : Thread nD τ) arg4 fullShare u)
    ∗ (∃ u, ⌜I5 x0 x1 k u⌝ ∗ owns (c : Thread nD τ) arg6 fullShare u) ∗ (∃ u, ⌜I8 x0 x1 (i 0).val s k u⌝ ∗ owns (c : Thread nD τ) arg8 fullShare u) ∗ ⌜Ia x0 x1 k acc⌝)

/-- The first loop by its invariant. -/
@[instance_reducible] def loop1 (x0 x1 : Vec F S128x12288 .bf16) (b : Vec F S1x12288 .f32) (s : Vec F S96x128x128 .f32) (init : FVec F S128x128 .f32) :
    LoopInv (M := 𝕄) Idealize.ShloMosaic.frame (wpE (defs₀ (F := F)) 𝒱 (c : Thread nD τ) bd) E k0_t1_loop.lb k0_t1_loop.ub k0_t1_loop.st k0_t1_ok init
      (k0_t1_body (F := F) i arg1 harg1 arg2 harg2 arg3 harg3 arg4 harg4 arg5 harg5 arg6 harg6 arg7 harg7 arg8 harg8) where
  inv := inv1 c i arg1 arg2 arg3 arg4 arg6 arg8 x0 x1 b s
  step k acc := by
    unfold inv1 owns
    iintro ⟨⟨%f1, %h1, H1⟩, ⟨%f2, %h2, H2⟩, ⟨%u3, %i3, %f3, %h3, H3⟩, ⟨%u4, %i4, %f4, %h4, H4⟩, ⟨%u6, %i6, %f6, %h6, H6⟩, ⟨%u8, %i8, %f8, %h8, H8⟩, %ha⟩
    subst h1 h2 h3 h4 h6 h8
    iapply (wp_wand_r Idealize.ShloMosaic.frame (wpE (defs₀ (F := F)) 𝒱 (c : Thread nD τ) bd) E)
    isplitl [H1 H2 H3 H4 H6 H8]
    · iapply (trip1 𝒱 c bd i arg1 harg1 arg2 harg2 arg3 harg3 arg4 harg4 arg5 harg5 arg6 harg6 arg7 harg7 arg8 harg8 f1 f2 f3 f4 f6 f8 E k acc)
      isplitl [H1]; · iexact H1
      isplitl [H2]; · iexact H2
      isplitl [H3]; · iexact H3
      isplitl [H4]; · iexact H4
      isplitl [H6]; · iexact H6
      iexact H8
    · iintro %yld ⟨%hy, H1, H2, H3, H4, H6, H8⟩
      isplitl [H1]; · iexists _; isplitr; · ipureintro; rfl
                      iexact H1
      isplitl [H2]; · iexists _; isplitr; · ipureintro; rfl
                      iexact H2
      isplitl [H3]
      · iexists _; isplitr; · ipureintro; exact I2.step k _ _ i3
        iexists _; isplitr; · ipureintro; rfl
        iexact H3
      isplitl [H4]
      · iexists _; isplitr; · ipureintro; exact I3.step k _ _ i4
        iexists _; isplitr; · ipureintro; rfl
        iexact H4
      isplitl [H6]
      · iexists _; isplitr; · ipureintro; exact I5.step k _ _ i6
        iexists _; isplitr; · ipureintro; rfl
        iexact H6
      isplitl [H8]
      · iexists _; isplitr; · ipureintro; exact I8.step i k _ _ i8
        iexists _; isplitr; · ipureintro; rfl
        iexact H8
      ipureintro; rw [hy]; exact Ia.step k _ ha

/-- The second loop's invariant: the scratch untouched, and the column scales of the trips before in place. -/
def inv2 (s : Vec F S96x128x128 .f32) (k : ℕ) (_ : Unit) : sProp 𝕄 :=
  iprop(owns (c : Thread nD τ) arg8 fullShare s ∗ (∃ u, ⌜I7 s k u⌝ ∗ owns (c : Thread nD τ) arg7 fullShare u))

/-- The second loop by its invariant. -/
@[instance_reducible] def loop2 (hc2 : k0_cond2 i = 1#1) (s : Vec F S96x128x128 .f32) :
    LoopInv (M := 𝕄) Idealize.ShloMosaic.frame (wpE (defs₀ (F := F)) 𝒱 (c : Thread nD τ) bd) E k0_t2_loop.lb k0_t2_loop.ub k0_t2_loop.st (k0_t2_ok i hc2) PUnit.unit
      (k0_t2_body (F := F) i arg1 harg1 arg2 harg2 arg3 harg3 arg4 harg4 arg5 harg5 arg6 harg6 arg7 harg7 arg8 harg8 hc2) where
  inv := inv2 c arg7 arg8 s
  step k acc := by
    unfold inv2 owns
    iintro ⟨⟨%f8, %h8, H8⟩, ⟨%u7, %i7, %f7, %h7, H7⟩⟩
    subst h8 h7
    iapply (wp_wand_r Idealize.ShloMosaic.frame (wpE (defs₀ (F := F)) 𝒱 (c : Thread nD τ) bd) E)
    isplitl [H7 H8]
    · iapply (trip2 𝒱 c bd i arg1 harg1 arg2 harg2 arg3 harg3 arg4 harg4 arg5 harg5 arg6 harg6 arg7 harg7 arg8 harg8 hc2 f7 f8 E k)
      isplitl [H8]; · iexact H8
      iexact H7
    · iintro %yld ⟨H8, H7⟩
      isplitl [H8]; · iexists _; isplitr; · ipureintro; rfl
                      iexact H8
      iexists _; isplitr; · ipureintro; exact I7.step k (k0_off6_inb i k hc2) _ _ i7
      iexists _; isplitr; · ipureintro; rfl
      iexact H7
end

end Cert.Kernel.Hand

end
-- ==== Proof.Kernel.LoopRun.lean ====
/- The kernel's whole body run at the first grid point, at a middle one and at the last: what it leaves in every buffer. -/
module

public import proofs.«01_k».proof.Proof.Kernel.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import proofs.«01_k».proof.Proof.Kernel.Loop
public import Idealize.ShloMosaic.Lib.Pipeline.Value

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (UR sig nD τ) ℕ

/-- The scratch after the point `r` with blocks `x0`, `x1`: row `r` of every slab holds the block's column scales. -/
def nextS (x0 x1 : Vec F S128x12288 .bf16) (r : ℕ) (s : Vec F S96x128x128 .f32) : Vec F S96x128x128 .f32 :=
  fun y => if (y 1).val = r then csB x0 x1 (y 0) (y 2) else s y

section
variable {x0 x1 : Vec F S128x12288 .bf16}

theorem I2.zero (b : Vec F S1x12288 .f32) : I2 x0 x1 b 0 b := fun y => by rw [if_neg (Nat.not_lt_zero _)]
theorem I3.zero (u : Vec F S128x12288 .fp8e5m2) : I3 x0 x1 0 u := fun y h => absurd h (Nat.not_lt_zero _)
theorem I5.zero (u : Vec F S12288x128 .fp8e5m2) : I5 x0 x1 0 u := fun y h => absurd h (Nat.not_lt_zero _)
theorem I7.zero (s : Vec F S96x128x128 .f32) (u : Vec F S12288x100 .f32) : I7 s 0 u := fun y h => absurd h (Nat.not_lt_zero _)
theorem I8.zero (r : ℕ) (s : Vec F S96x128x128 .f32) : I8 x0 x1 r s 0 s := fun y => by rw [if_neg (fun h => Nat.not_lt_zero _ h.2)]
theorem Ia.zero (a : FVec F S128x128 .f32) : Ia x0 x1 0 a := fun y _ h => absurd h (Nat.not_lt_zero _)

theorem I2.all {b u} (h : I2 x0 x1 b k0_t1_loop.trips u) : u = out2 x0 x1 b := funext fun y => by
  have hy := (y 1).isLt; change (y 1).val < 12288 at hy
  rw [h y, if_pos (by rw [trips1]; omega)]
theorem I3.all {u} (h : I3 x0 x1 k0_t1_loop.trips u) : u = out3 x0 x1 := funext fun y => by
  have hy := (y 1).isLt; change (y 1).val < 12288 at hy
  exact h y (by rw [trips1]; omega)
theorem I5.all {u} (h : I5 x0 x1 k0_t1_loop.trips u) : u = out5 x0 x1 := funext fun y => by
  have hy := (y 0).isLt; change (y 0).val < 12288 at hy
  exact h y (by rw [trips1]; omega)
theorem I7.all {s : Vec F S96x128x128 .f32} {u : Vec F S12288x100 .f32} (h : I7 s k0_t2_loop.trips u) : u = out6 s := funext fun y => by
  have hy := (y 0).isLt; change (y 0).val < 12288 at hy
  exact h y (by rw [trips2]; omega)
theorem I8.all {r s u} (h : I8 x0 x1 r s k0_t1_loop.trips u) : u = nextS x0 x1 r s := funext fun y => by
  have hy := (y 0).isLt; change (y 0).val < 96 at hy
  rw [h y]; unfold nextS
  by_cases hr : (y 1).val = r
  · rw [if_pos ⟨hr, by rw [trips1]; exact hy⟩, if_pos hr]
  · rw [if_neg (fun h => hr h.1), if_neg hr]
theorem Ia.all {a} (h : Ia x0 x1 k0_t1_loop.trips a) : k0_pay7 a = out4 x0 x1 := funext fun y => by
  have hy := (y 1).isLt; change (y 1).val < 96 at hy
  have he : k0_pay7 a y = a (ix2 (y 0) (⟨(y 1).val, by omega⟩ : Fin 128)) :=
    extractStridedSlice_apply _ a slices_S128x128_o0_0_S128x96 y _ (fun d => match d with | ⟨0, _⟩ => (Nat.zero_add _).symm | ⟨1, _⟩ => (Nat.zero_add _).symm)
  rw [he]
  exact h _ hy (by rw [trips1]; exact hy)
end

/-- A store over a whole buffer leaves what was stored. -/
theorem read_store {sig : RefSig} {κ : Kind} {sp : Space} {t : Shape} {e : EltTy} (v : View sig κ sp t e) (f : v.ty.Contents (Elt F))
    (off : Fin t.rank → ℕ) (h0 : ∀ a, off a = 0) (inb : ∀ a, off a + t.size a ≤ t.size a) (w : Vec F t e) :
    v.read (Elt F) (v.writes (Elt F) f [⟨Rect.unit off t.size inb, w⟩]) = w := by
  funext y
  exact View.read_writes_cons_unit_of_mem v f inb w [] y y rfl (fun d => by rw [h0 d, Nat.zero_add])
/-- A store over the whole of the column sums leaves what was stored. -/
theorem read_store3 {sig : RefSig} {κ : Kind} {sp : Space} (v : View sig κ sp S1x12288 .f32) (f : v.ty.Contents (Elt F)) (w : Vec F S1x12288 .f32) :
    v.read (Elt F) (v.writes (Elt F) f [⟨Rect.unit (s := S1x12288) ![0, 0] S1x12288.size inb_S1x12288_S1x12288_0_0, w⟩]) = w :=
  read_store v f ![0, 0] (by decide) inb_S1x12288_S1x12288_0_0 w
/-- A store over the whole of the row scales leaves what was stored. -/
theorem read_store5 {sig : RefSig} {κ : Kind} {sp : Space} (v : View sig κ sp S128x96 .f32) (f : v.ty.Contents (Elt F)) (w : Vec F S128x96 .f32) :
    v.read (Elt F) (v.writes (Elt F) f [⟨Rect.unit (s := S128x96) ![0, 0] S128x96.size inb_S128x96_S128x96_0_0, w⟩]) = w :=
  read_store v f ![0, 0] (by decide) inb_S128x96_S128x96_0_0 w

section
variable (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)

/-- The first loop at the head of a program: every buffer it writes ends as its block. -/
theorem loop1_run (x0 x1 : Vec F S128x12288 .bf16) (b : Vec F S1x12288 .f32) (s : Vec F S96x128x128 .f32) (init : FVec F S128x128 .f32)
    {β : Type} (kk : FVec F S128x128 .f32 → Prog (TpuEff nD τ sig (Elt F) Λ₀ .tc) β) (K : β → sProp 𝕄) :
    (iprop(owns (c : Thread nD τ) arg1 fullShare x0 ∗ owns (c : Thread nD τ) arg2 fullShare x1 ∗ owns (c : Thread nD τ) arg3 fullShare b ∗ (∃ d, owns (c : Thread nD τ) arg4 fullShare d) ∗ (∃ d, owns (c : Thread nD τ) arg6 fullShare d) ∗ owns (c : Thread nD τ) arg8 fullShare s
        ∗ (∀ acc, ⌜k0_pay7 acc = out4 x0 x1⌝ -∗ owns (c : Thread nD τ) arg1 fullShare x0 -∗ owns (c : Thread nD τ) arg2 fullShare x1 -∗ owns (c : Thread nD τ) arg3 fullShare (out2 x0 x1 b) -∗ owns (c : Thread nD τ) arg4 fullShare (out3 x0 x1)
            -∗ owns (c : Thread nD τ) arg6 fullShare (out5 x0 x1) -∗ owns (c : Thread nD τ) arg8 fullShare (nextS x0 x1 (i 0).val s) -∗ wp frame (wpE (defs₀ (F := F)) 𝒱 (c : Thread nD τ) bd) E (kk acc) K)) : sProp 𝕄)
      ⊢ wp frame (wpE (defs₀ (F := F)) 𝒱 (c : Thread nD τ) bd) E (Scf.Loop.for k0_t1_loop k0_t1_ok init (k0_t1_body (F := F) i arg1 harg1 arg2 harg2 arg3 harg3 arg4 harg4 arg5 harg5 arg6 harg6 arg7 harg7 arg8 harg8) >>= kk) K := by
  have hL : inv1 c i arg1 arg2 arg3 arg4 arg6 arg8 x0 x1 b s 0 init ⊢ iprop((∀ acc, inv1 c i arg1 arg2 arg3 arg4 arg6 arg8 x0 x1 b s k0_t1_loop.trips acc -∗ wp frame (wpE (defs₀ (F := F)) 𝒱 (c : Thread nD τ) bd) E (kk acc) K)
      -∗ wp frame (wpE (defs₀ (F := F)) 𝒱 (c : Thread nD τ) bd) E (Scf.Loop.for k0_t1_loop k0_t1_ok init (k0_t1_body (F := F) i arg1 harg1 arg2 harg2 arg3 harg3 arg4 harg4 arg5 harg5 arg6 harg6 arg7 harg7 arg8 harg8) >>= kk) K) :=
    exec_loop Idealize.ShloMosaic.frame (wpE (defs₀ (F := F)) 𝒱 (c : Thread nD τ) bd) E _ _ _ _ _ _ (loop1 𝒱 c bd E i arg1 harg1 arg2 harg2 arg3 harg3 arg4 harg4 arg5 harg5 arg6 harg6 arg7 harg7 arg8 harg8 x0 x1 b s init)
  iintro ⟨H1, H2, H3, ⟨%d4, H4⟩, ⟨%d6, H6⟩, H8, HK⟩
  iapply hL $$ [H1 H2 H3 H4 H6 H8]
  · unfold inv1
    isplitl [H1]; · iexact H1
    isplitl [H2]; · iexact H2
    isplitl [H3]; · iexists _; isplitr; · ipureintro; exact I2.zero _
                    iexact H3
    isplitl [H4]; · iexists _; isplitr; · ipureintro; exact I3.zero d4
                    iexact H4
    isplitl [H6]; · iexists _; isplitr; · ipureintro; exact I5.zero d6
                    iexact H6
    isplitl [H8]; · iexists _; isplitr; · ipureintro; exact I8.zero _ _
                    iexact H8
    ipureintro; exact Ia.zero _
  unfold inv1
  iintro %acc ⟨H1, H2, ⟨%u3, %i3, H3⟩, ⟨%u4, %i4, H4⟩, ⟨%u6, %i6, H6⟩, ⟨%u8, %i8, H8⟩, %ha⟩
  obtain rfl := i3.all; obtain rfl := i4.all; obtain rfl := i6.all; obtain rfl := i8.all
  iapply HK $$ %acc %(ha.all) H1 H2 H3 H4 H6 H8

/-- The second loop at the head of a program. -/
theorem loop2_run (hc2 : k0_cond2 i = 1#1) (s : Vec F S96x128x128 .f32)
    {β : Type} (kk : PUnit → Prog (TpuEff nD τ sig (Elt F) Λ₀ .tc) β) (K : β → sProp 𝕄) :
    (iprop(owns (c : Thread nD τ) arg8 fullShare s ∗ (∃ d, owns (c : Thread nD τ) arg7 fullShare d) ∗ (owns (c : Thread nD τ) arg8 fullShare s -∗ owns (c : Thread nD τ) arg7 fullShare (out6 s) -∗ wp frame (wpE (defs₀ (F := F)) 𝒱 (c : Thread nD τ) bd) E (kk PUnit.unit) K)) : sProp 𝕄)
      ⊢ wp frame (wpE (defs₀ (F := F)) 𝒱 (c : Thread nD τ) bd) E (Scf.Loop.for k0_t2_loop (k0_t2_ok i hc2) PUnit.unit (k0_t2_body (F := F) i arg1 harg1 arg2 harg2 arg3 harg3 arg4 harg4 arg5 harg5 arg6 harg6 arg7 harg7 arg8 harg8 hc2) >>= kk) K := by
  have hL : inv2 c arg7 arg8 s 0 PUnit.unit ⊢ iprop((∀ acc, inv2 c arg7 arg8 s k0_t2_loop.trips acc -∗ wp frame (wpE (defs₀ (F := F)) 𝒱 (c : Thread nD τ) bd) E (kk acc) K)
      -∗ wp frame (wpE (defs₀ (F := F)) 𝒱 (c : Thread nD τ) bd) E (Scf.Loop.for k0_t2_loop (k0_t2_ok i hc2) PUnit.unit (k0_t2_body (F := F) i arg1 harg1 arg2 harg2 arg3 harg3 arg4 harg4 arg5 harg5 arg6 harg6 arg7 harg7 arg8 harg8 hc2) >>= kk) K) :=
    exec_loop Idealize.ShloMosaic.frame (wpE (defs₀ (F := F)) 𝒱 (c : Thread nD τ) bd) E _ _ _ _ _ _ (loop2 𝒱 c bd E i arg1 harg1 arg2 harg2 arg3 harg3 arg4 harg4 arg5 harg5 arg6 harg6 arg7 harg7 arg8 harg8 hc2 s)
  iintro ⟨H8, ⟨%d7, H7⟩, HK⟩
  iapply hL $$ [H8 H7]
  · unfold inv2
    isplitl [H8]; · iexact H8
    iexists _; isplitr; · ipureintro; exact I7.zero s d7
    iexact H7
  unfold inv2
  iintro %acc ⟨H8, ⟨%u7, %i7, H7⟩⟩
  obtain rfl := i7.all
  iapply HK $$ H8 H7
end

end Cert.Kernel.Hand

end
-- ==== Proof.Kernel.Body.lean ====
/- The kernel's whole body run at the first grid point, at a middle one and at the last: what it leaves in every buffer. -/
module

public import proofs.«01_k».proof.Proof.Kernel.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import proofs.«01_k».proof.Proof.Kernel.LoopRun

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (UR sig nD τ) ℕ

/-- The body at the first point: the column sums start from zero. -/
theorem runA (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (hc1 : Scalar.cmpi .ne (Scalar.extui (Scalar.cmpi .eq (BitVec.ofNat 32 (i 0).val) 0#32)) (0#32 : BitVec 32) = 1#1) (hc2 : ¬ k0_cond2 i = 1#1)
    (x0 x1 : Vec F S128x12288 .bf16) (x7 : Vec F S12288x100 .f32) (s : Vec F S96x128x128 .f32) (K : PUnit → sProp 𝕄) :
    (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare x7 ∗ owns (c : Thread nD τ) arg8 fullShare s
        ∗ (iprop(owns (c : Thread nD τ) arg1 fullShare x0 ∗ owns (c : Thread nD τ) arg2 fullShare x1 ∗ owns (c : Thread nD τ) arg3 fullShare (out2 x0 x1 k0_pay1) ∗ owns (c : Thread nD τ) arg4 fullShare (out3 x0 x1) ∗ owns (c : Thread nD τ) arg5 fullShare (out4 x0 x1)
            ∗ owns (c : Thread nD τ) arg6 fullShare (out5 x0 x1) ∗ owns (c : Thread nD τ) arg7 fullShare x7 ∗ owns (c : Thread nD τ) arg8 fullShare (nextS x0 x1 (i 0).val s)) -∗ K ⟨⟩)) : sProp 𝕄)
      ⊢ wp frame (wpE (defs₀ (F := F)) 𝒱 (c : Thread nD τ) bd) E (cc0__body (F := F) i arg1 harg1 arg2 harg2 arg3 harg3 arg4 harg4 arg5 harg5 arg6 harg6 arg7 harg7 arg8 harg8) K := by
  simp only [cc0__body_eq_skeleton]; unfold cc0__body_skel
  unfold owns
  iintro ⟨⟨%f1, %h1, H1⟩, ⟨%f2, %h2, H2⟩, ⟨%d3, %f3, %h3, H3⟩, ⟨%d4, %f4, %h4, H4⟩, ⟨%d5, %f5, %h5, H5⟩, ⟨%d6, %f6, %h6, H6⟩, ⟨%f7, %h7, H7⟩, ⟨%f8, %h8, H8⟩, Hk⟩
  obtain rfl := harg1.eq_unread h1; obtain rfl := harg2.eq_unread h2
  sl_exec (disch := first | sl_exact hc1 | sl_exact hc2)
  iapply (loop1_run 𝒱 c bd E i arg1 harg1 arg2 harg2 arg3 harg3 arg4 harg4 arg5 harg5 arg6 harg6 arg7 harg7 arg8 harg8 x0 x1 k0_pay1 s k0_pay2)
  unfold owns
  isplitl [H1]; · iexists _; isplitr; · ipureintro; exact h1
                  iexact H1
  isplitl [H2]; · iexists _; isplitr; · ipureintro; exact h2
                  iexact H2
  isplitl [H3]; · iexists (arg3.view.writes (Elt F) arg3.view.junk [⟨Rect.unit (s := S1x12288) ![0, 0] S1x12288.size inb_S1x12288_S1x12288_0_0, k0_pay1 (F := F)⟩])
                  isplitr; · ipureintro; exact read_store3 _ _ _
                  iexact H3
  isplitl [H4]; · iexists d4; iexists f4; isplitr; · ipureintro; exact h4
                  iexact H4
  isplitl [H6]; · iexists d6; iexists f6; isplitr; · ipureintro; exact h6
                  iexact H6
  isplitl [H8]; · iexists _; isplitr; · ipureintro; exact h8
                  iexact H8
  iintro %acc %hacc ⟨%g1, %k1, H1⟩ ⟨%g2, %k2, H2⟩ ⟨%g3, %k3, H3⟩ ⟨%g4, %k4, H4⟩ ⟨%g6, %k6, H6⟩ ⟨%g8, %k8, H8⟩
  sl_exec (disch := first | sl_exact hc1 | sl_exact hc2)
  sl_step
  iapply Hk
  isplitl [H1]; · iexists _; isplitr; · ipureintro; exact k1
                  iexact H1
  isplitl [H2]; · iexists _; isplitr; · ipureintro; exact k2
                  iexact H2
  isplitl [H3]; · iexists _; isplitr; · ipureintro; exact k3
                  iexact H3
  isplitl [H4]; · iexists _; isplitr; · ipureintro; exact k4
                  iexact H4
  isplitl [H5]; · iexists (arg5.view.writes (Elt F) f5 [⟨Rect.unit (s := S128x96) ![0, 0] S128x96.size inb_S128x96_S128x96_0_0, k0_pay7 acc⟩])
                  isplitr; · ipureintro; exact (read_store5 _ _ _).trans hacc
                  iexact H5
  isplitl [H6]; · iexists _; isplitr; · ipureintro; exact k6
                  iexact H6
  isplitl [H7]; · iexists _; isplitr; · ipureintro; exact h7
                  iexact H7
  iexists _; isplitr; · ipureintro; exact k8
  iexact H8

/-- The body at a middle point. -/
theorem runB (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (hc1 : ¬ Scalar.cmpi .ne (Scalar.extui (Scalar.cmpi .eq (BitVec.ofNat 32 (i 0).val) 0#32)) (0#32 : BitVec 32) = 1#1) (hc2 : ¬ k0_cond2 i = 1#1)
    (x0 x1 : Vec F S128x12288 .bf16) (b : Vec F S1x12288 .f32) (x7 : Vec F S12288x100 .f32) (s : Vec F S96x128x128 .f32) (K : PUnit → sProp 𝕄) :
    (iprop(owns (c : Thread nD τ) arg1 fullShare x0 ∗ owns (c : Thread nD τ) arg2 fullShare x1 ∗ owns (c : Thread nD τ) arg3 fullShare b ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare x7 ∗ owns (c : Thread nD τ) arg8 fullShare s
        ∗ (iprop(owns (c : Thread nD τ) arg1 fullShare x0 ∗ owns (c : Thread nD τ) arg2 fullShare x1 ∗ owns (c : Thread nD τ) arg3 fullShare (out2 x0 x1 b) ∗ owns (c : Thread nD τ) arg4 fullShare (out3 x0 x1) ∗ owns (c : Thread nD τ) arg5 fullShare (out4 x0 x1)
            ∗ owns (c : Thread nD τ) arg6 fullShare (out5 x0 x1) ∗ owns (c : Thread nD τ) arg7 fullShare x7 ∗ owns (c : Thread nD τ) arg8 fullShare (nextS x0 x1 (i 0).val s)) -∗ K ⟨⟩)) : sProp 𝕄)
      ⊢ wp frame (wpE (defs₀ (F := F)) 𝒱 (c : Thread nD τ) bd) E (cc0__body (F := F) i arg1 harg1 arg2 harg2 arg3 harg3 arg4 harg4 arg5 harg5 arg6 harg6 arg7 harg7 arg8 harg8) K := by
  simp only [cc0__body_eq_skeleton]; unfold cc0__body_skel
  unfold owns
  iintro ⟨⟨%f1, %h1, H1⟩, ⟨%f2, %h2, H2⟩, ⟨%f3, %h3, H3⟩, ⟨%d4, %f4, %h4, H4⟩, ⟨%d5, %f5, %h5, H5⟩, ⟨%d6, %f6, %h6, H6⟩, ⟨%f7, %h7, H7⟩, ⟨%f8, %h8, H8⟩, Hk⟩
  obtain rfl := harg1.eq_unread h1; obtain rfl := harg2.eq_unread h2
  sl_exec (disch := first | sl_exact hc1 | sl_exact hc2)
  iapply (loop1_run 𝒱 c bd E i arg1 harg1 arg2 harg2 arg3 harg3 arg4 harg4 arg5 harg5 arg6 harg6 arg7 harg7 arg8 harg8 x0 x1 b s k0_pay2)
  unfold owns
  isplitl [H1]; · iexists _; isplitr; · ipureintro; exact h1
                  iexact H1
  isplitl [H2]; · iexists _; isplitr; · ipureintro; exact h2
                  iexact H2
  isplitl [H3]; · iexists f3
                  isplitr; · ipureintro; exact h3
                  iexact H3
  isplitl [H4]; · iexists d4; iexists f4; isplitr; · ipureintro; exact h4
                  iexact H4
  isplitl [H6]; · iexists d6; iexists f6; isplitr; · ipureintro; exact h6
                  iexact H6
  isplitl [H8]; · iexists _; isplitr; · ipureintro; exact h8
                  iexact H8
  iintro %acc %hacc ⟨%g1, %k1, H1⟩ ⟨%g2, %k2, H2⟩ ⟨%g3, %k3, H3⟩ ⟨%g4, %k4, H4⟩ ⟨%g6, %k6, H6⟩ ⟨%g8, %k8, H8⟩
  sl_exec (disch := first | sl_exact hc1 | sl_exact hc2)
  sl_step
  iapply Hk
  isplitl [H1]; · iexists _; isplitr; · ipureintro; exact k1
                  iexact H1
  isplitl [H2]; · iexists _; isplitr; · ipureintro; exact k2
                  iexact H2
  isplitl [H3]; · iexists _; isplitr; · ipureintro; exact k3
                  iexact H3
  isplitl [H4]; · iexists _; isplitr; · ipureintro; exact k4
                  iexact H4
  isplitl [H5]; · iexists (arg5.view.writes (Elt F) f5 [⟨Rect.unit (s := S128x96) ![0, 0] S128x96.size inb_S128x96_S128x96_0_0, k0_pay7 acc⟩])
                  isplitr; · ipureintro; exact (read_store5 _ _ _).trans hacc
                  iexact H5
  isplitl [H6]; · iexists _; isplitr; · ipureintro; exact k6
                  iexact H6
  isplitl [H7]; · iexists _; isplitr; · ipureintro; exact h7
                  iexact H7
  iexists _; isplitr; · ipureintro; exact k8
  iexact H8

/-- The body at the last point: the collected column scales are written. -/
theorem runC (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (hc1 : ¬ Scalar.cmpi .ne (Scalar.extui (Scalar.cmpi .eq (BitVec.ofNat 32 (i 0).val) 0#32)) (0#32 : BitVec 32) = 1#1) (hc2 : k0_cond2 i = 1#1)
    (x0 x1 : Vec F S128x12288 .bf16) (b : Vec F S1x12288 .f32) (s : Vec F S96x128x128 .f32) (K : PUnit → sProp 𝕄) :
    (iprop(owns (c : Thread nD τ) arg1 fullShare x0 ∗ owns (c : Thread nD τ) arg2 fullShare x1 ∗ owns (c : Thread nD τ) arg3 fullShare b ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare (out2 x0 x1 b) ∗ owns (c : Thread nD τ) arg4 fullShare (out3 x0 x1) ∗ owns (c : Thread nD τ) arg5 fullShare (out4 x0 x1)
            ∗ owns (c : Thread nD τ) arg6 fullShare (out5 x0 x1) ∗ owns (c : Thread nD τ) arg7 fullShare (out6 (nextS x0 x1 (i 0).val s)) ∗ owns (c : Thread nD τ) arg8 fullShare (nextS x0 x1 (i 0).val s)) -∗ K ⟨⟩)) : sProp 𝕄)
      ⊢ wp frame (wpE (defs₀ (F := F)) 𝒱 (c : Thread nD τ) bd) E (cc0__body (F := F) i arg1 harg1 arg2 harg2 arg3 harg3 arg4 harg4 arg5 harg5 arg6 harg6 arg7 harg7 arg8 harg8) K := by
  simp only [cc0__body_eq_skeleton]; unfold cc0__body_skel
  unfold owns
  iintro ⟨⟨%f1, %h1, H1⟩, ⟨%f2, %h2, H2⟩, ⟨%f3, %h3, H3⟩, ⟨%d4, %f4, %h4, H4⟩, ⟨%d5, %f5, %h5, H5⟩, ⟨%d6, %f6, %h6, H6⟩, ⟨%d7, %f7, %h7, H7⟩, ⟨%f8, %h8, H8⟩, Hk⟩
  obtain rfl := harg1.eq_unread h1; obtain rfl := harg2.eq_unread h2
  sl_exec (disch := first | sl_exact hc1 | sl_exact hc2)
  iapply (loop1_run 𝒱 c bd E i arg1 harg1 arg2 harg2 arg3 harg3 arg4 harg4 arg5 harg5 arg6 harg6 arg7 harg7 arg8 harg8 x0 x1 b s k0_pay2)
  unfold owns
  isplitl [H1]; · iexists _; isplitr; · ipureintro; exact h1
                  iexact H1
  isplitl [H2]; · iexists _; isplitr; · ipureintro; exact h2
                  iexact H2
  isplitl [H3]; · iexists f3
                  isplitr; · ipureintro; exact h3
                  iexact H3
  isplitl [H4]; · iexists d4; iexists f4; isplitr; · ipureintro; exact h4
                  iexact H4
  isplitl [H6]; · iexists d6; iexists f6; isplitr; · ipureintro; exact h6
                  iexact H6
  isplitl [H8]; · iexists _; isplitr; · ipureintro; exact h8
                  iexact H8
  iintro %acc %hacc ⟨%g1, %k1, H1⟩ ⟨%g2, %k2, H2⟩ ⟨%g3, %k3, H3⟩ ⟨%g4, %k4, H4⟩ ⟨%g6, %k6, H6⟩ ⟨%g8, %k8, H8⟩
  sl_exec (disch := first | sl_exact hc1 | sl_exact hc2)
  iapply (loop2_run 𝒱 c bd E i arg1 harg1 arg2 harg2 arg3 harg3 arg4 harg4 arg5 harg5 arg6 harg6 arg7 harg7 arg8 harg8 hc2 (nextS x0 x1 (i 0).val s))
  unfold owns
  isplitl [H8]; · iexists _; isplitr; · ipureintro; exact k8
                  iexact H8
  isplitl [H7]; · iexists d7; iexists f7; isplitr; · ipureintro; exact h7
                  iexact H7
  iintro ⟨%g8', %l8, H8⟩ ⟨%g7, %k7, H7⟩
  sl_exec
  sl_step
  iapply Hk
  isplitl [H1]; · iexists _; isplitr; · ipureintro; exact k1
                  iexact H1
  isplitl [H2]; · iexists _; isplitr; · ipureintro; exact k2
                  iexact H2
  isplitl [H3]; · iexists _; isplitr; · ipureintro; exact k3
                  iexact H3
  isplitl [H4]; · iexists _; isplitr; · ipureintro; exact k4
                  iexact H4
  isplitl [H5]; · iexists (arg5.view.writes (Elt F) arg5.view.junk [⟨Rect.unit (s := S128x96) ![0, 0] S128x96.size inb_S128x96_S128x96_0_0, k0_pay7 acc⟩])
                  isplitr; · ipureintro; exact (read_store5 _ _ _).trans hacc
                  iexact H5
  isplitl [H6]; · iexists _; isplitr; · ipureintro; exact k6
                  iexact H6
  isplitl [H7]; · iexists _; isplitr; · ipureintro; exact k7
                  iexact H7
  iexists _; isplitr; · ipureintro; exact l8
  iexact H8

end Cert.Kernel.Hand

end
-- ==== Proof.Kernel.Data.lean ====
/- What every buffer holds around each grid point: the pipeline's proof data. -/
module

public import proofs.«01_k».proof.Proof.Kernel.Body
public import proofs.«01_k».proof.Proof.Gen.Kernel.Frame
public import Idealize.ShloMosaic.Lib.Pipeline.Value

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions of the body -/

/-- The condition of the body's first `scf.if`. -/
abbrev condA (i : grid0.Coords) : Prop := Scalar.cmpi .ne (Scalar.extui (Scalar.cmpi .eq (BitVec.ofNat 32 (i 0).val) 0#32)) (0#32 : BitVec 32) = 1#1
theorem coord_val (t : Fin cfg0.N) : (grid0.coords t 0).val = t.val := by
  have ht : t.val < 100 := Nat.lt_of_lt_of_eq t.isLt N_0
  have e0 : (grid0.coords t 0).val = t.val / 1 % 100 := Pipeline.Grid.coords_val t 0 (by decide) rfl
  omega
theorem hcondA (t : Fin cfg0.N) : condA (grid0.coords t) ↔ t.val = 0 := by
  have ht : t.val < 100 := Nat.lt_of_lt_of_eq t.isLt N_0
  have h : ∀ n : Fin 100, (Scalar.cmpi .ne (Scalar.extui (Scalar.cmpi .eq (BitVec.ofNat 32 n.val) 0#32)) (0#32 : BitVec 32) = 1#1) ↔ n.val = 0 := by decide +kernel
  simp only [condA, coord_val]
  exact h ⟨t.val, ht⟩
theorem hcondC (t : Fin cfg0.N) : k0_cond2 (grid0.coords t) = 1#1 ↔ t.val = 99 := by
  have ht : t.val < 100 := Nat.lt_of_lt_of_eq t.isLt N_0
  have h : ∀ n : Fin 100, (Scalar.cmpi .ne (Scalar.extui (Scalar.cmpi .eq (BitVec.ofNat 32 n.val) 99#32)) (0#32 : BitVec 32) = 1#1) ↔ n.val = 99 := by decide +kernel
  simp only [k0_cond2, coord_val]
  exact h ⟨t.val, ht⟩

theorem idle6 (t : Fin cfg0.N) (h : t.val ≠ 99) : cfg0.idle 6 (grid0.coords t) = true := by
  show (!(k0_cond2 (grid0.coords t) == 1#1)) = true
  have := mt (hcondC t).mp h
  simp [this]
theorem live6 (t : Fin cfg0.N) (h : t.val = 99) : cfg0.idle 6 (grid0.coords t) = false := by
  show (!(k0_cond2 (grid0.coords t) == 1#1)) = false
  have := (hcondC t).mpr h
  simp [this]
theorem noFlush6 (t : Fin cfg0.N) (h : t.val ≠ 99) : (cfg0.win 6).flush t = false :=
  Bool.eq_false_iff.mpr fun hf => by
    have := (flush0_6 t).mp hf
    have ht : t.val < 100 := Nat.lt_of_lt_of_eq t.isLt N_0
    omega

/-- The staging memref of window 0 at point `t`. -/
abbrev ms0 (t : Fin cfg0.N) : Memref sig .tc .vmem S128x12288 .bf16 := win0_0.stage (cfg0.slots t 0)
abbrev hs0 (t : Fin cfg0.N) : (ms0 t).IsWhole := hstage0_0 ((cfg0.slots t 0).cast nbuf0_0)
/-- The staging memref of window 1 at point `t`. -/
abbrev ms1 (t : Fin cfg0.N) : Memref sig .tc .vmem S128x12288 .bf16 := win0_1.stage (cfg0.slots t 1)
abbrev hs1 (t : Fin cfg0.N) : (ms1 t).IsWhole := hstage0_1 ((cfg0.slots t 1).cast nbuf0_1)
/-- The staging memref of window 2 at point `t`. -/
abbrev ms2 (t : Fin cfg0.N) : Memref sig .tc .vmem S1x12288 .f32 := win0_2.stage (cfg0.slots t 2)
abbrev hs2 (t : Fin cfg0.N) : (ms2 t).IsWhole := hstage0_2 ((cfg0.slots t 2).cast nbuf0_2)
/-- The staging memref of window 3 at point `t`. -/
abbrev ms3 (t : Fin cfg0.N) : Memref sig .tc .vmem S128x12288 .fp8e5m2 := win0_3.stage (cfg0.slots t 3)
abbrev hs3 (t : Fin cfg0.N) : (ms3 t).IsWhole := hstage0_3 ((cfg0.slots t 3).cast nbuf0_3)
/-- The staging memref of window 4 at point `t`. -/
abbrev ms4 (t : Fin cfg0.N) : Memref sig .tc .vmem S128x96 .f32 := win0_4.stage (cfg0.slots t 4)
abbrev hs4 (t : Fin cfg0.N) : (ms4 t).IsWhole := hstage0_4 ((cfg0.slots t 4).cast nbuf0_4)
/-- The staging memref of window 5 at point `t`. -/
abbrev ms5 (t : Fin cfg0.N) : Memref sig .tc .vmem S12288x128 .fp8e5m2 := win0_5.stage (cfg0.slots t 5)
abbrev hs5 (t : Fin cfg0.N) : (ms5 t).IsWhole := hstage0_5 ((cfg0.slots t 5).cast nbuf0_5)
/-- The staging memref of window 6 at point `t`. -/
abbrev ms6 (t : Fin cfg0.N) : Memref sig .tc .vmem S12288x100 .f32 := win0_6.stage (cfg0.slots t 6)
abbrev hs6 (t : Fin cfg0.N) : (ms6 t).IsWhole := hstage0_6 ((cfg0.slots t 6).cast nbuf0_6)
/-- The scratch. -/
abbrev scM : Memref sig .tc .vmem S96x128x128 .f32 := Memref.whole cc0_scratch0

theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the points leave -/

/-- The block of the first input at point `t`. -/
def bx0 (c : Dev nD) (t : Fin cfg0.N) : Vec F S128x12288 .bf16 := iblk m c 0 t
/-- The block of the second input at point `t`. -/
def bx1 (c : Dev nD) (t : Fin cfg0.N) : Vec F S128x12288 .bf16 := iblk m c 1 t

/-- The column sums after point `n`. -/
def dbs (c : Dev nD) : (n : ℕ) → n < cfg0.N → Vec F S1x12288 .f32
  | 0, h => out2 (bx0 m c ⟨0, h⟩) (bx1 m c ⟨0, h⟩) k0_pay1
  | n + 1, h => out2 (bx0 m c ⟨n + 1, h⟩) (bx1 m c ⟨n + 1, h⟩) (dbs c n (Nat.lt_of_succ_lt h))

theorem dbs_zero (c : Dev nD) (t : Fin cfg0.N) (h : t.val = 0) : dbs m c t.val t.isLt = out2 (bx0 m c t) (bx1 m c t) k0_pay1 := by
  obtain ⟨n, hn⟩ := t
  cases n with
  | zero => rfl
  | succ n => exact absurd h (Nat.succ_ne_zero n)
theorem dbs_pos (c : Dev nD) (t : Fin cfg0.N) (h : t.val ≠ 0) :
    dbs m c t.val t.isLt = out2 (bx0 m c t) (bx1 m c t) (dbs m c (t.val - 1) (Nat.lt_of_le_of_lt (Nat.sub_le _ _) t.isLt)) := by
  obtain ⟨n, hn⟩ := t
  cases n with
  | zero => exact absurd rfl h
  | succ n => rfl

/-- The column scales of all points as the scratch holds them: slab `j`, row `r`, column `l` is point `r`'s scale of column `l` of tile `j`. -/
def csAll (c : Dev nD) : Vec F S96x128x128 .f32 := fun y =>
  if h : (y 1).val < cfg0.N then csB (bx0 m c ⟨(y 1).val, h⟩) (bx1 m c ⟨(y 1).val, h⟩) (y 0) (y 2)
  else k0_pay1 (ix2 (0 : Fin 1) (0 : Fin 12288))

/-- The scratch's rows of the points before `n` are filled. -/
def Filled (c : Dev nD) (n : ℕ) (s : Vec F S96x128x128 .f32) : Prop := ∀ y : S96x128x128.Idx, (y 1).val < n → s y = csAll m c y

theorem Filled.next (c : Dev nD) (t : Fin cfg0.N) {s : Vec F S96x128x128 .f32} (h : Filled m c t.val s) :
    Filled m c (t.val + 1) (nextS (bx0 m c t) (bx1 m c t) (grid0.coords t 0).val s) := by
  intro y hy
  unfold nextS
  rw [coord_val]
  by_cases he : (y 1).val = t.val
  · rw [if_pos he]
    unfold csAll
    have hlt : (y 1).val < cfg0.N := he ▸ t.isLt
    rw [dif_pos hlt]
    have : (⟨(y 1).val, hlt⟩ : Fin cfg0.N) = t := Fin.ext he
    rw [this]
  · rw [if_neg he]; exact h y (by omega)

theorem out6At_eq (s : Vec F S96x128x128 .f32) (k : Fin k0_t2_loop.trips) (l : Fin 128) (r : Fin 100) :
    out6At s k l r = s (ix3 (⟨k.val, Nat.lt_of_lt_of_eq k.isLt trips2⟩ : Fin 96) (⟨r.val, by omega⟩ : Fin 128) l) := by
  unfold out6At k0_pay8
  dsimp only
  have h1 : ∀ (w : Vec F S128x128 .f32), extractStridedSlice S128x100 ![0, 0] w slices_S128x128_o0_0_S128x100 (ix2 l r) = w (ix2 l (⟨r.val, by omega⟩ : Fin 128)) := fun w =>
    extractStridedSlice_apply _ w slices_S128x128_o0_0_S128x100 (ix2 l r) _ (fun d => match d with | ⟨0, _⟩ => (Nat.zero_add _).symm | ⟨1, _⟩ => (Nat.zero_add _).symm)
  have h2 : ∀ (w : Vec F S128x128 .f32) (a b : Fin 128), transpose S128x128 [1, 0] w transposes_S128x128_p1_0_S128x128 (ix2 a b) = w (ix2 b a) := fun w a b =>
    transpose_apply _ w transposes_S128x128_p1_0_S128x128 (ix2 a b) (ix2 b a) (fun d => match d with | ⟨0, _⟩ => rfl | ⟨1, _⟩ => rfl)
  refine (h1 _).trans ((h2 _ _ _).trans ?_)
  refine (shapeCast_dropUnit_apply ![128, 128] _ shapeCasts_S1x128x128_S128x128 _).trans ?_
  refine congrArg s (funext fun d => Fin.ext ?_)
  rw [Rect.idx_unit_val]
  match d with
  | ⟨0, _⟩ => exact congrArg (· + 0) (congrFun (off5_eq k) 0)
  | ⟨1, _⟩ => exact (congrArg (· + r.val) (congrFun (off5_eq k) 1)).trans (Nat.zero_add _)
  | ⟨2, _⟩ => exact (congrArg (· + l.val) (congrFun (off5_eq k) 2)).trans (Nat.zero_add _)

/-- What the last point writes depends only on the rows of the points. -/
theorem out6_at (s : Vec F S96x128x128 .f32) (y : S12288x100.Idx) :
    out6 s y = s (ix3 (⟨(y 0).val / 128, by have := (y 0).isLt; change (y 0).val < 12288 at this; omega⟩ : Fin 96)
      (⟨(y 1).val, by have := (y 1).isLt; change (y 1).val < 100 at this; omega⟩ : Fin 128) (tl (y 0))) :=
  out6At_eq s (tk2 (y 0)) (tl (y 0)) (y 1)

theorem Filled.out6 (c : Dev nD) {s : Vec F S96x128x128 .f32} (h : Filled m c 100 s) : out6 s = out6 (csAll m c) := by
  funext y
  rw [out6_at, out6_at]
  exact h _ (y 1).isLt

/-! ## The proof data -/

/-- The region invariant before point `n`: the scratch with the rows of the points before filled, the generator register at some state. -/
def PhiS (c : Dev nD) (n : ℕ) : sProp 𝕄 :=
  iprop((∃ s, ⌜Filled m c n s⌝ ∗ owns (c : Thread nD τ) scM fullShare s) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dbs m c t.val t.isLt
    | ⟨3, _⟩ => out3 (bx0 m c t) (bx1 m c t)
    | ⟨4, _⟩ => out4 (bx0 m c t) (bx1 m c t)
    | ⟨5, _⟩ => out5 (bx0 m c t) (bx1 m c t)
    | ⟨6, _⟩ => out6 (csAll m c)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = dbs m c t.val t.isLt := by dsimp only [dats]
theorem after3 (c : Dev nD) (t : Fin cfg0.N) : (dats m 0 c).after 3 t = out3 (bx0 m c t) (bx1 m c t) := by dsimp only [dats]
theorem after4 (c : Dev nD) (t : Fin cfg0.N) : (dats m 0 c).after 4 t = out4 (bx0 m c t) (bx1 m c t) := by dsimp only [dats]
theorem after5 (c : Dev nD) (t : Fin cfg0.N) : (dats m 0 c).after 5 t = out5 (bx0 m c t) (bx1 m c t) := by dsimp only [dats]
theorem after6 (c : Dev nD) (t : Fin cfg0.N) : (dats m 0 c).after 6 t = out6 (csAll m c) := by dsimp only [dats]

theorem before0 (c : Dev nD) (t : Fin cfg0.N) (d) : (dats m 0 c).before 0 t d = bx0 m c t :=
  before0_0_of m (dats m 0 c) (A_eq m c 0) (after0 m c) t d
theorem before1 (c : Dev nD) (t : Fin cfg0.N) (d) : (dats m 0 c).before 1 t d = bx1 m c t :=
  before0_1_of m (dats m 0 c) (A_eq m c 1) (after1 m c) t d
theorem before2 (c : Dev nD) (t : Fin cfg0.N) (h0 : t.val ≠ 0) (d) :
    (dats m 0 c).before 2 t d = dbs m c (t.val - 1) (Nat.lt_of_le_of_lt (Nat.sub_le _ _) t.isLt) := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dats]

end Cert.Kernel.Hand

end
-- ==== Proof.Kernel.Run.lean ====
/- The body's triple at every grid point, the run of the whole program, and its frame. -/
module

public import proofs.«01_k».proof.Proof.Kernel.Data
public import Idealize.ShloMosaic.Lib.Pipeline.FrameSuffix
public import Idealize.ShloMosaic.Lib.Claim

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) (h : t.val = 99) : (dats m 0 c).leavesExact 6 t = owns (c : Thread nD τ) (ms6 t) fullShare ((dats m 0 c).after 6 t) := by
  unfold Dat.leavesExact; rw [show cfg0.idle 6 (cfg0.grid.coords t) = false from live6 t h]

/-- The body at the first point. -/
theorem soundA (c : Dev nD) (t : Fin cfg0.N) (h0 : t.val = 0) :
    bodyPre m c t ⊢ wp frame (wpE (defs₀ (F := F)) Variants.none c none) Set.univ (bodyAt0 t) (fun _ => bodyPost m c t) := by
  have h1 : t.val ≠ 99 := by omega
  have hPost : bodyPost m c t = iprop(PhiS m c (t.val + 1) ∗ (dats m 0 c).owesAt () t.castSucc
      ∗ owns (c : Thread nD τ) (ms0 t) fullShare (bx0 m c t) ∗ owns (c : Thread nD τ) (ms1 t) fullShare (bx1 m c t)
      ∗ owns (c : Thread nD τ) (ms2 t) fullShare (out2 (bx0 m c t) (bx1 m c t) k0_pay1)
      ∗ owns (c : Thread nD τ) (ms3 t) fullShare (out3 (bx0 m c t) (bx1 m c t)) ∗ owns (c : Thread nD τ) (ms4 t) fullShare (out4 (bx0 m c t) (bx1 m c t))
      ∗ owns (c : Thread nD τ) (ms5 t) fullShare (out5 (bx0 m c t) (bx1 m c t)) ∗ (∃ d, owns (c : Thread nD τ) (ms6 t) fullShare ((dats m 0 c).before 6 t d))) := by
    unfold bodyPost
    rw [leaves0, leaves1, leaves2, leaves3, leaves4, leaves5, Dat.leavesExact_idle (dats m 0 c) 6 t (idle6 t h1) (noFlush6 t h1), after0, after1, after2, after3, after4, after5, dbs_zero m c t h0]
    rfl
  rw [hPost]
  unfold bodyPre bodyAt0
  simp only [before0, before1]
  rw [show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (runA Variants.none c none Set.univ (grid0.coords t) (ms0 t) (hs0 t) (ms1 t) (hs1 t) (ms2 t) (hs2 t) (ms3 t) (hs3 t) (ms4 t) (hs4 t) (ms5 t) (hs5 t) (ms6 t) (hs6 t)
    scM (Memref.isWhole_whole _) ((hcondA t).mpr h0) (fun h => h1 ((hcondC t).mp h)) (bx0 m c t) (bx1 m c t)  ((dats m 0 c).before 6 t d6) s _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  isplitl [HS]; · iexact HS
  iintro ⟨H0, H1, H2, H3, H4, H5, H6, HS⟩
  isplitl [HS Hg]
  · isplitl [HS]
    · iexists _; isplitr; · ipureintro; exact Filled.next m c t hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a middle point. -/
theorem soundB (c : Dev nD) (t : Fin cfg0.N) (h0 : t.val ≠ 0) (h1 : t.val ≠ 99) :
    bodyPre m c t ⊢ wp frame (wpE (defs₀ (F := F)) Variants.none c none) Set.univ (bodyAt0 t) (fun _ => bodyPost m c t) := by
  have hPost : bodyPost m c t = iprop(PhiS m c (t.val + 1) ∗ (dats m 0 c).owesAt () t.castSucc
      ∗ owns (c : Thread nD τ) (ms0 t) fullShare (bx0 m c t) ∗ owns (c : Thread nD τ) (ms1 t) fullShare (bx1 m c t)
      ∗ owns (c : Thread nD τ) (ms2 t) fullShare (out2 (bx0 m c t) (bx1 m c t) (dbs m c (t.val - 1) (Nat.lt_of_le_of_lt (Nat.sub_le _ _) t.isLt)))
      ∗ owns (c : Thread nD τ) (ms3 t) fullShare (out3 (bx0 m c t) (bx1 m c t)) ∗ owns (c : Thread nD τ) (ms4 t) fullShare (out4 (bx0 m c t) (bx1 m c t))
      ∗ owns (c : Thread nD τ) (ms5 t) fullShare (out5 (bx0 m c t) (bx1 m c t)) ∗ (∃ d, owns (c : Thread nD τ) (ms6 t) fullShare ((dats m 0 c).before 6 t d))) := by
    unfold bodyPost
    rw [leaves0, leaves1, leaves2, leaves3, leaves4, leaves5, Dat.leavesExact_idle (dats m 0 c) 6 t (idle6 t h1) (noFlush6 t h1), after0, after1, after2, after3, after4, after5, dbs_pos m c t h0]
    rfl
  rw [hPost]
  unfold bodyPre bodyAt0
  simp only [before0, before1, before2 m c t h0]
  rw [show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (runB Variants.none c none Set.univ (grid0.coords t) (ms0 t) (hs0 t) (ms1 t) (hs1 t) (ms2 t) (hs2 t) (ms3 t) (hs3 t) (ms4 t) (hs4 t) (ms5 t) (hs5 t) (ms6 t) (hs6 t)
    scM (Memref.isWhole_whole _) (fun h => h0 ((hcondA t).mp h)) (fun h => h1 ((hcondC t).mp h)) (bx0 m c t) (bx1 m c t) (dbs m c (t.val - 1) (Nat.lt_of_le_of_lt (Nat.sub_le _ _) t.isLt)) ((dats m 0 c).before 6 t d6) s _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS]; · iexact HS
  iintro ⟨H0, H1, H2, H3, H4, H5, H6, HS⟩
  isplitl [HS Hg]
  · isplitl [HS]
    · iexists _; isplitr; · ipureintro; exact Filled.next m c t hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at the last point. -/
theorem soundC (c : Dev nD) (t : Fin cfg0.N) (h1 : t.val = 99) :
    bodyPre m c t ⊢ wp frame (wpE (defs₀ (F := F)) Variants.none c none) Set.univ (bodyAt0 t) (fun _ => bodyPost m c t) := by
  have h0 : t.val ≠ 0 := by omega
  have hPost : bodyPost m c t = iprop(PhiS m c (t.val + 1) ∗ (dats m 0 c).owesAt () t.castSucc
      ∗ owns (c : Thread nD τ) (ms0 t) fullShare (bx0 m c t) ∗ owns (c : Thread nD τ) (ms1 t) fullShare (bx1 m c t)
      ∗ owns (c : Thread nD τ) (ms2 t) fullShare (out2 (bx0 m c t) (bx1 m c t) (dbs m c (t.val - 1) (Nat.lt_of_le_of_lt (Nat.sub_le _ _) t.isLt)))
      ∗ owns (c : Thread nD τ) (ms3 t) fullShare (out3 (bx0 m c t) (bx1 m c t)) ∗ owns (c : Thread nD τ) (ms4 t) fullShare (out4 (bx0 m c t) (bx1 m c t))
      ∗ owns (c : Thread nD τ) (ms5 t) fullShare (out5 (bx0 m c t) (bx1 m c t)) ∗ owns (c : Thread nD τ) (ms6 t) fullShare (out6 (csAll m c))) := by
    unfold bodyPost
    rw [leaves0, leaves1, leaves2, leaves3, leaves4, leaves5, leaves6 m c t h1, after6, after0, after1, after2, after3, after4, after5, dbs_pos m c t h0]
    rfl
  rw [hPost]
  unfold bodyPre bodyAt0
  simp only [before0, before1, before2 m c t h0]
  rw [show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (runC Variants.none c none Set.univ (grid0.coords t) (ms0 t) (hs0 t) (ms1 t) (hs1 t) (ms2 t) (hs2 t) (ms3 t) (hs3 t) (ms4 t) (hs4 t) (ms5 t) (hs5 t) (ms6 t) (hs6 t)
    scM (Memref.isWhole_whole _) (fun h => h0 ((hcondA t).mp h)) ((hcondC t).mpr h1) (bx0 m c t) (bx1 m c t) (dbs m c (t.val - 1) (Nat.lt_of_le_of_lt (Nat.sub_le _ _) t.isLt))  s _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS]; · iexact HS
  iintro ⟨H0, H1, H2, H3, H4, H5, H6, HS⟩
  isplitl [HS Hg]
  · isplitl [HS]
    · iexists _; isplitr; · ipureintro; exact Filled.next m c t hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← Filled.out6 m c (by have h := Filled.next m c t hs; rw [h1] at h; exact h)]
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h1 : t.val = 99
    · exact soundC m c t h1
    · exact soundB m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d; isplitr; · ipureintro; exact fun y h => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%d, -, HS⟩, Hg⟩
  isplitl [HS]
  · iexists d; iexact HS
  iexact Hg

/-! ## The run and the frame -/

set_option backward.isDefEq.respectTransparency.types false in
/-- The run of the whole program: every array at what the proof data say, the result of the last reshape, every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Kernel.Hand

end
-- ==== Proof.KernelIdeal.Tile.lean ====
/- What one grid point of the kernel computes, as functions of its two input blocks: the 128x128 tile of trip `k`,
   the tile's codes, scales and column sums, and each output block put together from its 96 tiles. -/
module

public import proofs.«01_k».proof.Proof.Gen.KernelIdeal.Skeleton
public import Idealize.ShloMosaic.Lib.Pipeline.FrameBody
public import Idealize.ShloMosaic.Lib.ValueIdxCoords

@[expose] public section

set_option maxRecDepth 16384

noncomputable section

namespace Cert.KernelIdeal.Hand

open Idealize.ShloMosaic Cert.KernelIdeal Cert.KernelIdeal.Gen
open Idealize.ShloMosaic.ValueIdx (ix1 ix2 ix3)

variable {F : FTy → Type} [FloatOps F] [Named F]

/-- The first loop makes 96 trips, one per 128 columns. -/
theorem trips1 : k0_t1_loop.trips = 96 := by decide +kernel
/-- The second loop makes 96 trips, one per 128 columns. -/
theorem trips2 : k0_t2_loop.trips = 96 := by decide +kernel

/-- The tile of column `c`. -/
def tk (c : Fin 12288) : Fin k0_t1_loop.trips := ⟨c.val / 128, by rw [trips1]; have := c.isLt; omega⟩
/-- The tile of column `c`, as a trip of the second loop. -/
def tk2 (c : Fin 12288) : Fin k0_t2_loop.trips := ⟨c.val / 128, by rw [trips2]; have := c.isLt; omega⟩
/-- The place of column `c` within its tile. -/
def tl (c : Fin 12288) : Fin 128 := ⟨c.val % 128, Nat.mod_lt _ (by decide)⟩
/-- Tile `j` as a trip of the first loop. -/
def tj (j : Fin 96) : Fin k0_t1_loop.trips := ⟨j.val, by rw [trips1]; exact j.isLt⟩

/-! ## The offsets of the loads and stores -/

theorem off1_eq : ∀ k : Fin k0_t1_loop.trips, k0_off1 k = ![0, 128 * k.val] := by decide +kernel
theorem off2_eq : ∀ k : Fin k0_t1_loop.trips, k0_off2 k = ![0, 128 * k.val] := by decide +kernel
theorem off4_eq : ∀ k : Fin k0_t1_loop.trips, k0_off4 k = ![128 * k.val, 0] := by decide +kernel
theorem off5_eq : ∀ k : Fin k0_t2_loop.trips, k0_off5 k = ![k.val, 0, 0] := by decide +kernel
theorem off6_eq : ∀ k : Fin k0_t2_loop.trips, k0_off6 k = ![128 * k.val, 0] := by decide +kernel
theorem off3_eq (i : grid0.Coords) (k : Fin k0_t1_loop.trips) : k0_off3 i k = ![k.val, (i 0).val, 0] := by
  have h1 : ∀ k : Fin k0_t1_loop.trips, (Scalar.indexCast (Scf.iv 0#32 1#32 k) : Index).toNat = k.val := by decide +kernel
  have h2 : ∀ a : Fin 100, (Scalar.indexCast (BitVec.ofNat 32 a.val) : Index).toNat = a.val := by decide +kernel
  show ![(Scalar.indexCast (Scf.iv 0#32 1#32 k) : Index).toNat, (Scalar.indexCast (BitVec.ofNat 32 (i 0).val) : Index).toNat, 0] = _
  rw [h1 k, h2 (i 0)]

/-- Every slab the second loop loads lies in the scratch. -/
theorem inb5 : ∀ (k : Fin k0_t2_loop.trips) (a : Fin 3), k0_off5 k a + S1x128x128.size a ≤ S96x128x128.size a := by decide +kernel

/-! ## One tile -/

section Tile
variable (x0 x1 : Vec F S128x12288 .bf16) (k : Fin k0_t1_loop.trips)

/-- The tile of an input block trip `k` loads. -/
def gT (x : Vec F S128x12288 .bf16) (k : Fin k0_t1_loop.trips) : Vec F S128x128 .bf16 :=
  View.ld x (Rect.unit (s := S128x12288) (k0_off1 k) S128x128.size (k0_off1_inb k))
/-- The derivative times the gradient on the tile. -/
def dT : FVec F S128x128 .f32 := k0_pay9 (gT x0 k) (gT x1 k)
/-- The row maxima over 57344. -/
def rvT : FVec F S128x1 .f32 := k0_pay12 (gT x0 k) (gT x1 k)
/-- The row scales. -/
def rsT : FVec F S128x1 .f32 := k0_pay17 (rvT x0 x1 k) (k0_pay13 (rvT x0 x1 k) 0#32) (k0_pay14 (rvT x0 x1 k) 0#32) k0_pay15
/-- The row codes. -/
def rcT : FVec F S128x128 .fp8e5m2 :=
  k0_pay18 (dT x0 x1 k) (rvT x0 x1 k) (k0_pay13 (rvT x0 x1 k) 0#32) (k0_pay14 (rvT x0 x1 k) 0#32) k0_pay15
/-- The column maxima over 57344. -/
def cvT : FVec F S1x128 .f32 := k0_pay19 (k0_pay11 (gT x0 k) (gT x1 k))
/-- The first step of the column exponents' search. -/
def cbT : IVec S1x128 32 := k0_pay20 (k0_pay11 (gT x0 k) (gT x1 k))
/-- The column scales. -/
def csT : FVec F S1x1x128 .f32 :=
  k0_pay4 (cvT x0 x1 k) (k0_pay21 (cvT x0 x1 k) (cbT x0 x1 k)) (k0_pay22 (cvT x0 x1 k) (cbT x0 x1 k)) (k0_pay23 (cvT x0 x1 k) (cbT x0 x1 k))
/-- The column codes, transposed. -/
def ccT : FVec F S128x128 .fp8e5m2 :=
  k0_pay5 (dT x0 x1 k) (cvT x0 x1 k) (k0_pay21 (cvT x0 x1 k) (cbT x0 x1 k)) (k0_pay22 (cvT x0 x1 k) (cbT x0 x1 k)) (k0_pay23 (cvT x0 x1 k) (cbT x0 x1 k))
/-- The running column sums with the tile's added. -/
def dbT (b : Vec F S1x128 .f32) : FVec F S1x128 .f32 := k0_pay10 (gT x0 k) (gT x1 k) b
/-- The carried row scales with the tile's put in. -/
def accT (acc : FVec F S128x128 .f32) : FVec F S128x128 .f32 := k0_pay6 acc (Scf.iv 0#32 1#32 k) (rsT x0 x1 k)

end Tile

/-! ## The output blocks -/

section Blocks
variable (x0 x1 : Vec F S128x12288 .bf16)

/-- The running column sums at place `l` of tile `k`, from the sums `b` found. -/
def out2At (b : Vec F S1x12288 .f32) (k : Fin k0_t1_loop.trips) (r : Fin 1) (l : Fin 128) : F .f32 :=
  dbT x0 x1 k (View.ld b (Rect.unit (s := S1x12288) (k0_off2 k) S1x128.size (k0_off2_inb k))) (ix2 r l)
/-- The running column sums over the block's 12288 columns, from the sums `b` found. -/
def out2 (b : Vec F S1x12288 .f32) : Vec F S1x12288 .f32 := fun y => out2At x0 x1 b (tk (y 1)) (y 0) (tl (y 1))
/-- The block of row codes. -/
def out3 : Vec F S128x12288 .fp8e5m2 := fun y => rcT x0 x1 (tk (y 1)) (ix2 (y 0) (tl (y 1)))
/-- The block of row scales. -/
def out4 : Vec F S128x96 .f32 := fun y => rsT x0 x1 (tj (y 1)) (ix2 (y 0) (0 : Fin 1))
/-- The block of column codes. -/
def out5 : Vec F S12288x128 .fp8e5m2 := fun y => ccT x0 x1 (tk (y 0)) (ix2 (tl (y 0)) (y 1))
/-- The column scale of column `l` of tile `j`. -/
def csB (j : Fin 96) (l : Fin 128) : F .f32 := csT x0 x1 (tj j) (ix3 (0 : Fin 1) (0 : Fin 1) l)

end Blocks

/-- The column scales of tile `k` written at the last point, from the scratch that collected them. -/
def out6At (s : Vec F S96x128x128 .f32) (k : Fin k0_t2_loop.trips) (l : Fin 128) (r : Fin 100) : F .f32 :=
  k0_pay8 (View.ld s (Rect.unit (s := S96x128x128) (k0_off5 k) S1x128x128.size (inb5 k))) (ix2 l r)
/-- The column scales written at the last point, from the scratch that collected them. -/
def out6 (s : Vec F S96x128x128 .f32) : Vec F S12288x100 .f32 := fun y => out6At s (tk2 (y 0)) (tl (y 0)) (y 1)

end Cert.KernelIdeal.Hand

end
-- ==== Proof.KernelIdeal.Trip.lean ====
/- One trip of each of the kernel's two loops, run over the buffers it touches: the pieces it writes and what it yields. -/
module

public import proofs.«01_k».proof.Proof.KernelIdeal.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

/-- One trip of the first loop. -/
theorem trip1 (𝒱 : Variants) (c : Dev nD) (bd : Option 𝒱.V) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f6 : BufTy.Contents (Elt F) arg6.view.ty) (f8 : BufTy.Contents (Elt F) arg8.view.ty)
    (E : Set ℕ) (k : Fin k0_t1_loop.trips) (acc : FVec F S128x128 .f32) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 k acc)
          (fun yld => iprop(⌜yld = accT (arg1.view.read (Elt F) f1) (arg2.view.read (Elt F) f2) k acc⌝
            ∗ (arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} (arg3.view.writes (Elt F) f3 [⟨(Rect.unit (s := S1x12288) (k0_off2 k) S1x128.size (k0_off2_inb k)), dbT (arg1.view.read (Elt F) f1) (arg2.view.read (Elt F) f2) k (View.ld (arg3.view.read (Elt F) f3) (Rect.unit (s := S1x12288) (k0_off2 k) S1x128.size (k0_off2_inb k)))⟩]))
            ∗ (arg4.view.loc (c : Thread nD τ) ↦[arg4.view.set]{fullShare} (arg4.view.writes (Elt F) f4 [⟨(Rect.unit (s := S128x12288) (k0_off1 k) S128x128.size (k0_off1_inb k)), rcT (arg1.view.read (Elt F) f1) (arg2.view.read (Elt F) f2) k⟩]))
            ∗ (arg6.view.loc (c : Thread nD τ) ↦[arg6.view.set]{fullShare} (arg6.view.writes (Elt F) f6 [⟨(Rect.unit (s := S12288x128) (k0_off4 k) S128x128.size (k0_off4_inb k)), ccT (arg1.view.read (Elt F) f1) (arg2.view.read (Elt F) f2) k⟩]))
            ∗ (arg8.view.loc (c : Thread nD τ) ↦[arg8.view.set]{fullShare} (arg8.view.writes (Elt F) f8 [⟨(Rect.unit (s := S96x128x128) (k0_off3 i k) S1x1x128.size (k0_off3_inb i k)), csT (arg1.view.read (Elt F) f1) (arg2.view.read (Elt F) f2) k⟩])))) := by
  have hk : k.val < 96 := Nat.lt_of_lt_of_le k.isLt (le_of_eq trips1)
  unfold k0_t1_body
  iintro ⟨H1, H2, H3, H4, H6, H8⟩
  sl_exec
  sl_step
  isplitr; · ipureintro; rfl
  isplitl [H1]; · iexact H1
  isplitl [H2]; · iexact H2
  isplitl [H3]; · iexact H3
  isplitl [H4]; · iexact H4
  isplitl [H6]; · iexact H6
  iexact H8

/-- One trip of the second loop. -/
theorem trip2 (𝒱 : Variants) (c : Dev nD) (bd : Option 𝒱.V) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (h2 : k0_cond2 i = 1#1) (f7 : BufTy.Contents (Elt F) arg7.view.ty) (f8 : BufTy.Contents (Elt F) arg8.view.ty)
    (E : Set ℕ) (k : Fin k0_t2_loop.trips) :
    (iprop((arg8.view.loc (c : Thread nD τ) ↦[arg8.view.set]{fullShare} f8) ∗ (arg7.view.loc (c : Thread nD τ) ↦[arg7.view.set]{fullShare} f7)) : sProp 𝕄)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 h2 k PUnit.unit)
          (fun _ => iprop((arg8.view.loc (c : Thread nD τ) ↦[arg8.view.set]{fullShare} f8)
            ∗ (arg7.view.loc (c : Thread nD τ) ↦[arg7.view.set]{fullShare} (arg7.view.writes (Elt F) f7 [⟨Rect.unit (s := S12288x100) (k0_off6 k) S128x100.size (k0_off6_inb i k h2), k0_pay8 (View.ld (arg8.view.read (Elt F) f8) (Rect.unit (s := S96x128x128) (k0_off5 k) S1x128x128.size (inb5 k)))⟩])))) := by
  have hk : k.val < 96 := Nat.lt_of_lt_of_le k.isLt (le_of_eq trips2)
  unfold k0_t2_body
  iintro ⟨H8, H7⟩
  sl_exec
  sl_step
  isplitl [H8]; · iexact H8
  iexact H7

end Cert.KernelIdeal.Hand

end
-- ==== Proof.KernelIdeal.Steps.lean ====
/- What the trips of the two loops before trip `k` have left in the buffers they write, element by element, and that one more trip keeps the description. -/
module

public import proofs.«01_k».proof.Proof.KernelIdeal.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import Idealize.ShloMosaic.Lib.Pipeline.ValueKit.Tiles
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

variable (x0 x1 : Vec F S128x12288 .bf16)

/-- Before trip `k`: the column sums of the columns of earlier trips are updated, the others as found. -/
def I2 (b : Vec F S1x12288 .f32) (k : ℕ) (u : Vec F S1x12288 .f32) : Prop :=
  ∀ y : S1x12288.Idx, u y = if (y 1).val / 128 < k then out2 x0 x1 b y else b y
/-- Before trip `k`: the row codes of the earlier trips are in place. -/
def I3 (k : ℕ) (u : Vec F S128x12288 .fp8e5m2) : Prop := ∀ y : S128x12288.Idx, (y 1).val / 128 < k → u y = out3 x0 x1 y
/-- Before trip `k`: the column codes of the earlier trips are in place. -/
def I5 (k : ℕ) (u : Vec F S12288x128 .fp8e5m2) : Prop := ∀ y : S12288x128.Idx, (y 0).val / 128 < k → u y = out5 x0 x1 y
/-- Before trip `k`: row `r` of the scratch slabs of the earlier trips holds the column scales, the rest is as found. -/
def I8 (r : ℕ) (s : Vec F S96x128x128 .f32) (k : ℕ) (u : Vec F S96x128x128 .f32) : Prop :=
  ∀ y : S96x128x128.Idx, u y = if (y 1).val = r ∧ (y 0).val < k then csB x0 x1 (y 0) (y 2) else s y
/-- Before trip `k`: the carried block holds the row scales of the earlier trips, one column each. -/
def Ia (k : ℕ) (acc : FVec F S128x128 .f32) : Prop :=
  ∀ y : S128x128.Idx, ∀ h : (y 1).val < 96, (y 1).val < k → acc y = rsT x0 x1 (tj ⟨(y 1).val, h⟩) (ix2 (y 0) (0 : Fin 1))
/-- Before trip `k` of the second loop: the column scales of the earlier trips are in place. -/
def I7 (s : Vec F S96x128x128 .f32) (k : ℕ) (u : Vec F S12288x100 .f32) : Prop :=
  ∀ y : S12288x100.Idx, (y 0).val / 128 < k → u y = out6 s y

theorem tk_eq {c : Fin 12288} {k : Fin k0_t1_loop.trips} (h : c.val / 128 = k.val) : tk c = k := Fin.ext h
theorem tk2_eq {c : Fin 12288} {k : Fin k0_t2_loop.trips} (h : c.val / 128 = k.val) : tk2 c = k := Fin.ext h

section
variable {sig : RefSig} {κ : Kind} {sp : Space} {x0 x1}

theorem I2.step {b} (k : Fin k0_t1_loop.trips) (v : View sig κ sp S1x12288 .f32) (f : v.ty.Contents (Elt F))
    (h : I2 x0 x1 b k.val (v.read (Elt F) f)) :
    I2 x0 x1 b (k.val + 1) (v.read (Elt F) (v.writes (Elt F) f [⟨(Rect.unit (s := S1x12288) (k0_off2 k) S1x128.size (k0_off2_inb k)), dbT x0 x1 k (View.ld (v.read (Elt F) f) (Rect.unit (s := S1x12288) (k0_off2 k) S1x128.size (k0_off2_inb k)))⟩])) := by
  intro y
  have hld : View.ld (v.read (Elt F) f) (Rect.unit (s := S1x12288) (k0_off2 k) S1x128.size (k0_off2_inb k)) = View.ld b (Rect.unit (s := S1x12288) (k0_off2 k) S1x128.size (k0_off2_inb k)) := by
    funext x
    have hx := h ((Rect.unit (s := S1x12288) (k0_off2 k) S1x128.size (k0_off2_inb k)).idx x)
    have h1 : ((Rect.unit (s := S1x12288) (k0_off2 k) S1x128.size (k0_off2_inb k)).idx x 1).val = 128 * k.val + (x 1).val := by
      rw [Rect.idx_unit_val, congrFun (off2_eq k) 1]; rfl
    rw [if_neg (by rw [h1]; omega)] at hx
    exact hx
  by_cases hy : (y 1).val / 128 = k.val
  · rw [if_pos (by omega)]
    have hm := View.read_writes_cons_unit_of_mem v f (k0_off2_inb k) (dbT x0 x1 k (View.ld (v.read (Elt F) f) (Rect.unit (s := S1x12288) (k0_off2 k) S1x128.size (k0_off2_inb k)))) [] y (ix2 (y 0) (tl (y 1))) (off2_eq k) (by
      intro a
      match a with
      | ⟨0, _⟩ => show (y 0).val = 0 + (y 0).val; omega
      | ⟨1, _⟩ => show (y 1).val = 128 * k.val + (y 1).val % 128; omega)
    rw [hm, hld]
    show _ = out2At x0 x1 b (tk (y 1)) (y 0) (tl (y 1))
    rw [tk_eq hy]; rfl
  · have hm := View.read_writes_cons_unit_of_not_mem v f (k0_off2_inb k) (dbT x0 x1 k (View.ld (v.read (Elt F) f) (Rect.unit (s := S1x12288) (k0_off2 k) S1x128.size (k0_off2_inb k)))) [] y (off2_eq k) 1 (by
      show (y 1).val < 128 * k.val ∨ 128 * k.val + 128 ≤ (y 1).val
      omega)
    rw [hm]
    show v.read (Elt F) f y = _
    rw [h y]
    by_cases hl : (y 1).val / 128 < k.val
    · rw [if_pos hl, if_pos (by omega)]
    · rw [if_neg hl, if_neg (by omega)]

theorem I3.step (k : Fin k0_t1_loop.trips) (v : View sig κ sp S128x12288 .fp8e5m2) (f : v.ty.Contents (Elt F))
    (h : I3 x0 x1 k.val (v.read (Elt F) f)) :
    I3 x0 x1 (k.val + 1) (v.read (Elt F) (v.writes (Elt F) f [⟨(Rect.unit (s := S128x12288) (k0_off1 k) S128x128.size (k0_off1_inb k)), rcT x0 x1 k⟩])) := by
  intro y hlt
  by_cases hy : (y 1).val / 128 = k.val
  · have hm := View.read_writes_cons_unit_of_mem v f (k0_off1_inb k) (rcT x0 x1 k) [] y (ix2 (y 0) (tl (y 1))) (off1_eq k) (by
      intro a
      match a with
      | ⟨0, _⟩ => show (y 0).val = 0 + (y 0).val; omega
      | ⟨1, _⟩ => show (y 1).val = 128 * k.val + (y 1).val % 128; omega)
    rw [hm]
    unfold out3
    rw [tk_eq hy]
  · have hm := View.read_writes_cons_unit_of_not_mem v f (k0_off1_inb k) (rcT x0 x1 k) [] y (off1_eq k) 1 (by
      show (y 1).val < 128 * k.val ∨ 128 * k.val + 128 ≤ (y 1).val
      omega)
    rw [hm]
    exact h y (by omega)

theorem I5.step (k : Fin k0_t1_loop.trips) (v : View sig κ sp S12288x128 .fp8e5m2) (f : v.ty.Contents (Elt F))
    (h : I5 x0 x1 k.val (v.read (Elt F) f)) :
    I5 x0 x1 (k.val + 1) (v.read (Elt F) (v.writes (Elt F) f [⟨(Rect.unit (s := S12288x128) (k0_off4 k) S128x128.size (k0_off4_inb k)), ccT x0 x1 k⟩])) := by
  intro y hlt
  by_cases hy : (y 0).val / 128 = k.val
  · have hm := View.read_writes_cons_unit_of_mem v f (k0_off4_inb k) (ccT x0 x1 k) [] y (ix2 (tl (y 0)) (y 1)) (off4_eq k) (by
      intro a
      match a with
      | ⟨0, _⟩ => show (y 0).val = 128 * k.val + (y 0).val % 128; omega
      | ⟨1, _⟩ => show (y 1).val = 0 + (y 1).val; omega)
    rw [hm]
    unfold out5
    rw [tk_eq hy]
  · have hm := View.read_writes_cons_unit_of_not_mem v f (k0_off4_inb k) (ccT x0 x1 k) [] y (off4_eq k) 0 (by
      show (y 0).val < 128 * k.val ∨ 128 * k.val + 128 ≤ (y 0).val
      omega)
    rw [hm]
    exact h y (by omega)

theorem I7.step {s} (k : Fin k0_t2_loop.trips) (hin : ∀ a, k0_off6 k a + S128x100.size a ≤ S12288x100.size a)
    (v : View sig κ sp S12288x100 .f32) (f : v.ty.Contents (Elt F))
    (h : I7 s k.val (v.read (Elt F) f)) :
    I7 s (k.val + 1) (v.read (Elt F) (v.writes (Elt F) f [⟨Rect.unit (s := S12288x100) (k0_off6 k) S128x100.size hin,
      k0_pay8 (View.ld s (Rect.unit (s := S96x128x128) (k0_off5 k) S1x128x128.size (inb5 k)))⟩])) := by
  intro y hlt
  by_cases hy : (y 0).val / 128 = k.val
  · have hm := View.read_writes_cons_unit_of_mem v f hin (k0_pay8 (View.ld s (Rect.unit (s := S96x128x128) (k0_off5 k) S1x128x128.size (inb5 k)))) [] y (ix2 (tl (y 0)) (y 1)) (off6_eq k) (by
      intro a
      match a with
      | ⟨0, _⟩ => show (y 0).val = 128 * k.val + (y 0).val % 128; omega
      | ⟨1, _⟩ => show (y 1).val = 0 + (y 1).val; omega)
    rw [hm]
    show _ = out6At s (tk2 (y 0)) (tl (y 0)) (y 1)
    rw [tk2_eq hy]; rfl
  · have hm := View.read_writes_cons_unit_of_not_mem v f hin (k0_pay8 (View.ld s (Rect.unit (s := S96x128x128) (k0_off5 k) S1x128x128.size (inb5 k)))) [] y (off6_eq k) 0 (by
      show (y 0).val < 128 * k.val ∨ 128 * k.val + 128 ≤ (y 0).val
      omega)
    rw [hm]
    exact h y (by omega)

theorem I8.step {s} (i : grid0.Coords) (k : Fin k0_t1_loop.trips) (v : View sig κ sp S96x128x128 .f32) (f : v.ty.Contents (Elt F))
    (h : I8 x0 x1 (i 0).val s k.val (v.read (Elt F) f)) :
    I8 x0 x1 (i 0).val s (k.val + 1) (v.read (Elt F) (v.writes (Elt F) f [⟨(Rect.unit (s := S96x128x128) (k0_off3 i k) S1x1x128.size (k0_off3_inb i k)), csT x0 x1 k⟩])) := by
  intro y
  by_cases hy : (y 1).val = (i 0).val ∧ (y 0).val = k.val
  · rw [if_pos (by omega)]
    have hm := View.read_writes_cons_unit_of_mem v f (k0_off3_inb i k) (csT x0 x1 k) [] y (ix3 (0 : Fin 1) (0 : Fin 1) (y 2)) (off3_eq i k) (by
      intro a
      match a with
      | ⟨0, _⟩ => show (y 0).val = k.val + 0; omega
      | ⟨1, _⟩ => show (y 1).val = (i 0).val + 0; omega
      | ⟨2, _⟩ => show (y 2).val = 0 + (y 2).val; omega)
    rw [hm]
    unfold csB
    have : tj (y 0) = k := Fin.ext hy.2
    rw [this]
  · have hm : v.read (Elt F) (v.writes (Elt F) f [⟨(Rect.unit (s := S96x128x128) (k0_off3 i k) S1x1x128.size (k0_off3_inb i k)), csT x0 x1 k⟩]) y = v.read (Elt F) f y := by
      by_cases h1 : (y 1).val = (i 0).val
      · exact View.read_writes_cons_unit_of_not_mem v f (k0_off3_inb i k) (csT x0 x1 k) [] y (off3_eq i k) 0 (by
          show (y 0).val < k.val ∨ k.val + 1 ≤ (y 0).val
          omega)
      · exact View.read_writes_cons_unit_of_not_mem v f (k0_off3_inb i k) (csT x0 x1 k) [] y (off3_eq i k) 1 (by
          show (y 1).val < (i 0).val ∨ (i 0).val + 1 ≤ (y 1).val
          omega)
    rw [hm, h y]
    by_cases hl : (y 1).val = (i 0).val ∧ (y 0).val < k.val
    · rw [if_pos hl, if_pos (by omega)]
    · rw [if_neg hl, if_neg (by omega)]

theorem Ia.step (k : Fin k0_t1_loop.trips) (acc : FVec F S128x128 .f32) (h : Ia x0 x1 k.val acc) :
    Ia x0 x1 (k.val + 1) (accT x0 x1 k acc) := by
  intro y h96 hlt
  have hk : k.val < 96 := Nat.lt_of_lt_of_le k.isLt (le_of_eq trips1)
  have hsel : accT x0 x1 k acc y = Scalar.select (IntOp.cmpi .eq (BitVec.ofNat 32 (y 1).val) (Scf.iv 0#32 1#32 k.val))
      (rsT x0 x1 k (ix2 (y 0) (0 : Fin 1))) (acc y) := by
    show k0_pay6 acc (Scf.iv 0#32 1#32 k.val) (rsT x0 x1 k) y = _
    generalize rsT x0 x1 k = w
    have hb : broadcastTo S128x128 (shapeCast S128x1 w shapeCasts_S128x1_S128x1) broadcasts_S128x1_S128x128 y = w (ix2 (y 0) (0 : Fin 1)) := by
      rw [shapeCast_self]
      exact broadcastTo_apply w _ y _ (fun a => match a with | ⟨0, _⟩ => rfl | ⟨1, _⟩ => rfl)
    have hi : iota .tc S128x128 32 [1] iota_S128x128_d1_w32 y = BitVec.ofNat 32 (y 1).val := iota_single_apply _ _ _ _ _ _
    rw [← hb, ← hi]; rfl
  have hiv : ∀ k : Fin k0_t1_loop.trips, Scf.iv 0#32 1#32 k.val = BitVec.ofNat 32 k.val := by decide +kernel
  have hcmp : ∀ a b : Fin 128, IntOp.cmpi .eq (BitVec.ofNat 32 a.val) (BitVec.ofNat 32 b.val) = if a.val = b.val then 1#1 else 0#1 := by decide +kernel
  rw [hsel, hiv k, hcmp (y 1) ⟨k.val, by omega⟩]
  by_cases hy : (y 1).val = k.val
  · rw [if_pos hy]
    have : tj ⟨(y 1).val, h96⟩ = k := Fin.ext hy
    rw [this]; rfl
  · rw [if_neg hy]
    exact h y h96 (by omega)
end

end Cert.KernelIdeal.Hand

end
-- ==== Proof.KernelIdeal.Loop.lean ====
/- The two loops of the kernel's body, each run whole by its invariant. -/
module

public import proofs.«01_k».proof.Proof.KernelIdeal.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import proofs.«01_k».proof.Proof.KernelIdeal.Trip
public import proofs.«01_k».proof.Proof.KernelIdeal.Steps

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

section
variable (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)

/-- The first loop's invariant: the inputs untouched, and of each buffer written what the trips before have left. -/
def inv1 (x0 x1 : Vec F S128x12288 .bf16) (b : Vec F S1x12288 .f32) (s : Vec F S96x128x128 .f32) (k : ℕ) (acc : FVec F S128x128 .f32) : sProp 𝕄 :=
  iprop(owns (c : Thread nD τ) arg1 fullShare x0 ∗ owns (c : Thread nD τ) arg2 fullShare x1 ∗ (∃ u, ⌜I2 x0 x1 b k u⌝ ∗ owns (c : Thread nD τ) arg3 fullShare u) ∗ (∃ u, ⌜I3 x0 x1 k u⌝ ∗ owns (c : Thread nD τ) arg4 fullShare u)
    ∗ (∃ u, ⌜I5 x0 x1 k u⌝ ∗ owns (c : Thread nD τ) arg6 fullShare u) ∗ (∃ u, ⌜I8 x0 x1 (i 0).val s k u⌝ ∗ owns (c : Thread nD τ) arg8 fullShare u) ∗ ⌜Ia x0 x1 k acc⌝)

/-- The first loop by its invariant. -/
@[instance_reducible] def loop1 (x0 x1 : Vec F S128x12288 .bf16) (b : Vec F S1x12288 .f32) (s : Vec F S96x128x128 .f32) (init : FVec F S128x128 .f32) :
    LoopInv (M := 𝕄) Idealize.ShloMosaic.frame (wpE (defs₀ (F := F)) 𝒱 (c : Thread nD τ) bd) E k0_t1_loop.lb k0_t1_loop.ub k0_t1_loop.st k0_t1_ok init
      (k0_t1_body (F := F) i arg1 harg1 arg2 harg2 arg3 harg3 arg4 harg4 arg5 harg5 arg6 harg6 arg7 harg7 arg8 harg8) where
  inv := inv1 c i arg1 arg2 arg3 arg4 arg6 arg8 x0 x1 b s
  step k acc := by
    unfold inv1 owns
    iintro ⟨⟨%f1, %h1, H1⟩, ⟨%f2, %h2, H2⟩, ⟨%u3, %i3, %f3, %h3, H3⟩, ⟨%u4, %i4, %f4, %h4, H4⟩, ⟨%u6, %i6, %f6, %h6, H6⟩, ⟨%u8, %i8, %f8, %h8, H8⟩, %ha⟩
    subst h1 h2 h3 h4 h6 h8
    iapply (wp_wand_r Idealize.ShloMosaic.frame (wpE (defs₀ (F := F)) 𝒱 (c : Thread nD τ) bd) E)
    isplitl [H1 H2 H3 H4 H6 H8]
    · iapply (trip1 𝒱 c bd i arg1 harg1 arg2 harg2 arg3 harg3 arg4 harg4 arg5 harg5 arg6 harg6 arg7 harg7 arg8 harg8 f1 f2 f3 f4 f6 f8 E k acc)
      isplitl [H1]; · iexact H1
      isplitl [H2]; · iexact H2
      isplitl [H3]; · iexact H3
      isplitl [H4]; · iexact H4
      isplitl [H6]; · iexact H6
      iexact H8
    · iintro %yld ⟨%hy, H1, H2, H3, H4, H6, H8⟩
      isplitl [H1]; · iexists _; isplitr; · ipureintro; rfl
                      iexact H1
      isplitl [H2]; · iexists _; isplitr; · ipureintro; rfl
                      iexact H2
      isplitl [H3]
      · iexists _; isplitr; · ipureintro; exact I2.step k _ _ i3
        iexists _; isplitr; · ipureintro; rfl
        iexact H3
      isplitl [H4]
      · iexists _; isplitr; · ipureintro; exact I3.step k _ _ i4
        iexists _; isplitr; · ipureintro; rfl
        iexact H4
      isplitl [H6]
      · iexists _; isplitr; · ipureintro; exact I5.step k _ _ i6
        iexists _; isplitr; · ipureintro; rfl
        iexact H6
      isplitl [H8]
      · iexists _; isplitr; · ipureintro; exact I8.step i k _ _ i8
        iexists _; isplitr; · ipureintro; rfl
        iexact H8
      ipureintro; rw [hy]; exact Ia.step k _ ha

/-- The second loop's invariant: the scratch untouched, and the column scales of the trips before in place. -/
def inv2 (s : Vec F S96x128x128 .f32) (k : ℕ) (_ : Unit) : sProp 𝕄 :=
  iprop(owns (c : Thread nD τ) arg8 fullShare s ∗ (∃ u, ⌜I7 s k u⌝ ∗ owns (c : Thread nD τ) arg7 fullShare u))

/-- The second loop by its invariant. -/
@[instance_reducible] def loop2 (hc2 : k0_cond2 i = 1#1) (s : Vec F S96x128x128 .f32) :
    LoopInv (M := 𝕄) Idealize.ShloMosaic.frame (wpE (defs₀ (F := F)) 𝒱 (c : Thread nD τ) bd) E k0_t2_loop.lb k0_t2_loop.ub k0_t2_loop.st (k0_t2_ok i hc2) PUnit.unit
      (k0_t2_body (F := F) i arg1 harg1 arg2 harg2 arg3 harg3 arg4 harg4 arg5 harg5 arg6 harg6 arg7 harg7 arg8 harg8 hc2) where
  inv := inv2 c arg7 arg8 s
  step k acc := by
    unfold inv2 owns
    iintro ⟨⟨%f8, %h8, H8⟩, ⟨%u7, %i7, %f7, %h7, H7⟩⟩
    subst h8 h7
    iapply (wp_wand_r Idealize.ShloMosaic.frame (wpE (defs₀ (F := F)) 𝒱 (c : Thread nD τ) bd) E)
    isplitl [H7 H8]
    · iapply (trip2 𝒱 c bd i arg1 harg1 arg2 harg2 arg3 harg3 arg4 harg4 arg5 harg5 arg6 harg6 arg7 harg7 arg8 harg8 hc2 f7 f8 E k)
      isplitl [H8]; · iexact H8
      iexact H7
    · iintro %yld ⟨H8, H7⟩
      isplitl [H8]; · iexists _; isplitr; · ipureintro; rfl
                      iexact H8
      iexists _; isplitr; · ipureintro; exact I7.step k (k0_off6_inb i k hc2) _ _ i7
      iexists _; isplitr; · ipureintro; rfl
      iexact H7
end

end Cert.KernelIdeal.Hand

end
-- ==== Proof.KernelIdeal.LoopRun.lean ====
/- The kernel's whole body run at the first grid point, at a middle one and at the last: what it leaves in every buffer. -/
module

public import proofs.«01_k».proof.Proof.KernelIdeal.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import proofs.«01_k».proof.Proof.KernelIdeal.Loop
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

/-- The scratch after the point `r` with blocks `x0`, `x1`: row `r` of every slab holds the block's column scales. -/
def nextS (x0 x1 : Vec F S128x12288 .bf16) (r : ℕ) (s : Vec F S96x128x128 .f32) : Vec F S96x128x128 .f32 :=
  fun y => if (y 1).val = r then csB x0 x1 (y 0) (y 2) else s y

section
variable {x0 x1 : Vec F S128x12288 .bf16}

theorem I2.zero (b : Vec F S1x12288 .f32) : I2 x0 x1 b 0 b := fun y => by rw [if_neg (Nat.not_lt_zero _)]
theorem I3.zero (u : Vec F S128x12288 .fp8e5m2) : I3 x0 x1 0 u := fun y h => absurd h (Nat.not_lt_zero _)
theorem I5.zero (u : Vec F S12288x128 .fp8e5m2) : I5 x0 x1 0 u := fun y h => absurd h (Nat.not_lt_zero _)
theorem I7.zero (s : Vec F S96x128x128 .f32) (u : Vec F S12288x100 .f32) : I7 s 0 u := fun y h => absurd h (Nat.not_lt_zero _)
theorem I8.zero (r : ℕ) (s : Vec F S96x128x128 .f32) : I8 x0 x1 r s 0 s := fun y => by rw [if_neg (fun h => Nat.not_lt_zero _ h.2)]
theorem Ia.zero (a : FVec F S128x128 .f32) : Ia x0 x1 0 a := fun y _ h => absurd h (Nat.not_lt_zero _)

theorem I2.all {b u} (h : I2 x0 x1 b k0_t1_loop.trips u) : u = out2 x0 x1 b := funext fun y => by
  have hy := (y 1).isLt; change (y 1).val < 12288 at hy
  rw [h y, if_pos (by rw [trips1]; omega)]
theorem I3.all {u} (h : I3 x0 x1 k0_t1_loop.trips u) : u = out3 x0 x1 := funext fun y => by
  have hy := (y 1).isLt; change (y 1).val < 12288 at hy
  exact h y (by rw [trips1]; omega)
theorem I5.all {u} (h : I5 x0 x1 k0_t1_loop.trips u) : u = out5 x0 x1 := funext fun y => by
  have hy := (y 0).isLt; change (y 0).val < 12288 at hy
  exact h y (by rw [trips1]; omega)
theorem I7.all {s : Vec F S96x128x128 .f32} {u : Vec F S12288x100 .f32} (h : I7 s k0_t2_loop.trips u) : u = out6 s := funext fun y => by
  have hy := (y 0).isLt; change (y 0).val < 12288 at hy
  exact h y (by rw [trips2]; omega)
theorem I8.all {r s u} (h : I8 x0 x1 r s k0_t1_loop.trips u) : u = nextS x0 x1 r s := funext fun y => by
  have hy := (y 0).isLt; change (y 0).val < 96 at hy
  rw [h y]; unfold nextS
  by_cases hr : (y 1).val = r
  · rw [if_pos ⟨hr, by rw [trips1]; exact hy⟩, if_pos hr]
  · rw [if_neg (fun h => hr h.1), if_neg hr]
theorem Ia.all {a} (h : Ia x0 x1 k0_t1_loop.trips a) : k0_pay7 a = out4 x0 x1 := funext fun y => by
  have hy := (y 1).isLt; change (y 1).val < 96 at hy
  have he : k0_pay7 a y = a (ix2 (y 0) (⟨(y 1).val, by omega⟩ : Fin 128)) :=
    extractStridedSlice_apply _ a slices_S128x128_o0_0_S128x96 y _ (fun d => match d with | ⟨0, _⟩ => (Nat.zero_add _).symm | ⟨1, _⟩ => (Nat.zero_add _).symm)
  rw [he]
  exact h _ hy (by rw [trips1]; exact hy)
end

/-- A store over a whole buffer leaves what was stored. -/
theorem read_store {sig : RefSig} {κ : Kind} {sp : Space} {t : Shape} {e : EltTy} (v : View sig κ sp t e) (f : v.ty.Contents (Elt F))
    (off : Fin t.rank → ℕ) (h0 : ∀ a, off a = 0) (inb : ∀ a, off a + t.size a ≤ t.size a) (w : Vec F t e) :
    v.read (Elt F) (v.writes (Elt F) f [⟨Rect.unit off t.size inb, w⟩]) = w := by
  funext y
  exact View.read_writes_cons_unit_of_mem v f inb w [] y y rfl (fun d => by rw [h0 d, Nat.zero_add])
/-- A store over the whole of the column sums leaves what was stored. -/
theorem read_store3 {sig : RefSig} {κ : Kind} {sp : Space} (v : View sig κ sp S1x12288 .f32) (f : v.ty.Contents (Elt F)) (w : Vec F S1x12288 .f32) :
    v.read (Elt F) (v.writes (Elt F) f [⟨Rect.unit (s := S1x12288) ![0, 0] S1x12288.size inb_S1x12288_S1x12288_0_0, w⟩]) = w :=
  read_store v f ![0, 0] (by decide) inb_S1x12288_S1x12288_0_0 w
/-- A store over the whole of the row scales leaves what was stored. -/
theorem read_store5 {sig : RefSig} {κ : Kind} {sp : Space} (v : View sig κ sp S128x96 .f32) (f : v.ty.Contents (Elt F)) (w : Vec F S128x96 .f32) :
    v.read (Elt F) (v.writes (Elt F) f [⟨Rect.unit (s := S128x96) ![0, 0] S128x96.size inb_S128x96_S128x96_0_0, w⟩]) = w :=
  read_store v f ![0, 0] (by decide) inb_S128x96_S128x96_0_0 w

section
variable (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)

/-- The first loop at the head of a program: every buffer it writes ends as its block. -/
theorem loop1_run (x0 x1 : Vec F S128x12288 .bf16) (b : Vec F S1x12288 .f32) (s : Vec F S96x128x128 .f32) (init : FVec F S128x128 .f32)
    {β : Type} (kk : FVec F S128x128 .f32 → Prog (TpuEff nD τ sig (Elt F) Λ₀ .tc) β) (K : β → sProp 𝕄) :
    (iprop(owns (c : Thread nD τ) arg1 fullShare x0 ∗ owns (c : Thread nD τ) arg2 fullShare x1 ∗ owns (c : Thread nD τ) arg3 fullShare b ∗ (∃ d, owns (c : Thread nD τ) arg4 fullShare d) ∗ (∃ d, owns (c : Thread nD τ) arg6 fullShare d) ∗ owns (c : Thread nD τ) arg8 fullShare s
        ∗ (∀ acc, ⌜k0_pay7 acc = out4 x0 x1⌝ -∗ owns (c : Thread nD τ) arg1 fullShare x0 -∗ owns (c : Thread nD τ) arg2 fullShare x1 -∗ owns (c : Thread nD τ) arg3 fullShare (out2 x0 x1 b) -∗ owns (c : Thread nD τ) arg4 fullShare (out3 x0 x1)
            -∗ owns (c : Thread nD τ) arg6 fullShare (out5 x0 x1) -∗ owns (c : Thread nD τ) arg8 fullShare (nextS x0 x1 (i 0).val s) -∗ wp frame (wpE (defs₀ (F := F)) 𝒱 (c : Thread nD τ) bd) E (kk acc) K)) : sProp 𝕄)
      ⊢ wp frame (wpE (defs₀ (F := F)) 𝒱 (c : Thread nD τ) bd) E (Scf.Loop.for k0_t1_loop k0_t1_ok init (k0_t1_body (F := F) i arg1 harg1 arg2 harg2 arg3 harg3 arg4 harg4 arg5 harg5 arg6 harg6 arg7 harg7 arg8 harg8) >>= kk) K := by
  have hL : inv1 c i arg1 arg2 arg3 arg4 arg6 arg8 x0 x1 b s 0 init ⊢ iprop((∀ acc, inv1 c i arg1 arg2 arg3 arg4 arg6 arg8 x0 x1 b s k0_t1_loop.trips acc -∗ wp frame (wpE (defs₀ (F := F)) 𝒱 (c : Thread nD τ) bd) E (kk acc) K)
      -∗ wp frame (wpE (defs₀ (F := F)) 𝒱 (c : Thread nD τ) bd) E (Scf.Loop.for k0_t1_loop k0_t1_ok init (k0_t1_body (F := F) i arg1 harg1 arg2 harg2 arg3 harg3 arg4 harg4 arg5 harg5 arg6 harg6 arg7 harg7 arg8 harg8) >>= kk) K) :=
    exec_loop Idealize.ShloMosaic.frame (wpE (defs₀ (F := F)) 𝒱 (c : Thread nD τ) bd) E _ _ _ _ _ _ (loop1 𝒱 c bd E i arg1 harg1 arg2 harg2 arg3 harg3 arg4 harg4 arg5 harg5 arg6 harg6 arg7 harg7 arg8 harg8 x0 x1 b s init)
  iintro ⟨H1, H2, H3, ⟨%d4, H4⟩, ⟨%d6, H6⟩, H8, HK⟩
  iapply hL $$ [H1 H2 H3 H4 H6 H8]
  · unfold inv1
    isplitl [H1]; · iexact H1
    isplitl [H2]; · iexact H2
    isplitl [H3]; · iexists _; isplitr; · ipureintro; exact I2.zero _
                    iexact H3
    isplitl [H4]; · iexists _; isplitr; · ipureintro; exact I3.zero d4
                    iexact H4
    isplitl [H6]; · iexists _; isplitr; · ipureintro; exact I5.zero d6
                    iexact H6
    isplitl [H8]; · iexists _; isplitr; · ipureintro; exact I8.zero _ _
                    iexact H8
    ipureintro; exact Ia.zero _
  unfold inv1
  iintro %acc ⟨H1, H2, ⟨%u3, %i3, H3⟩, ⟨%u4, %i4, H4⟩, ⟨%u6, %i6, H6⟩, ⟨%u8, %i8, H8⟩, %ha⟩
  obtain rfl := i3.all; obtain rfl := i4.all; obtain rfl := i6.all; obtain rfl := i8.all
  iapply HK $$ %acc %(ha.all) H1 H2 H3 H4 H6 H8

/-- The second loop at the head of a program. -/
theorem loop2_run (hc2 : k0_cond2 i = 1#1) (s : Vec F S96x128x128 .f32)
    {β : Type} (kk : PUnit → Prog (TpuEff nD τ sig (Elt F) Λ₀ .tc) β) (K : β → sProp 𝕄) :
    (iprop(owns (c : Thread nD τ) arg8 fullShare s ∗ (∃ d, owns (c : Thread nD τ) arg7 fullShare d) ∗ (owns (c : Thread nD τ) arg8 fullShare s -∗ owns (c : Thread nD τ) arg7 fullShare (out6 s) -∗ wp frame (wpE (defs₀ (F := F)) 𝒱 (c : Thread nD τ) bd) E (kk PUnit.unit) K)) : sProp 𝕄)
      ⊢ wp frame (wpE (defs₀ (F := F)) 𝒱 (c : Thread nD τ) bd) E (Scf.Loop.for k0_t2_loop (k0_t2_ok i hc2) PUnit.unit (k0_t2_body (F := F) i arg1 harg1 arg2 harg2 arg3 harg3 arg4 harg4 arg5 harg5 arg6 harg6 arg7 harg7 arg8 harg8 hc2) >>= kk) K := by
  have hL : inv2 c arg7 arg8 s 0 PUnit.unit ⊢ iprop((∀ acc, inv2 c arg7 arg8 s k0_t2_loop.trips acc -∗ wp frame (wpE (defs₀ (F := F)) 𝒱 (c : Thread nD τ) bd) E (kk acc) K)
      -∗ wp frame (wpE (defs₀ (F := F)) 𝒱 (c : Thread nD τ) bd) E (Scf.Loop.for k0_t2_loop (k0_t2_ok i hc2) PUnit.unit (k0_t2_body (F := F) i arg1 harg1 arg2 harg2 arg3 harg3 arg4 harg4 arg5 harg5 arg6 harg6 arg7 harg7 arg8 harg8 hc2) >>= kk) K) :=
    exec_loop Idealize.ShloMosaic.frame (wpE (defs₀ (F := F)) 𝒱 (c : Thread nD τ) bd) E _ _ _ _ _ _ (loop2 𝒱 c bd E i arg1 harg1 arg2 harg2 arg3 harg3 arg4 harg4 arg5 harg5 arg6 harg6 arg7 harg7 arg8 harg8 hc2 s)
  iintro ⟨H8, ⟨%d7, H7⟩, HK⟩
  iapply hL $$ [H8 H7]
  · unfold inv2
    isplitl [H8]; · iexact H8
    iexists _; isplitr; · ipureintro; exact I7.zero s d7
    iexact H7
  unfold inv2
  iintro %acc ⟨H8, ⟨%u7, %i7, H7⟩⟩
  obtain rfl := i7.all
  iapply HK $$ H8 H7
end

end Cert.KernelIdeal.Hand

end
-- ==== Proof.KernelIdeal.Body.lean ====
/- The kernel's whole body run at the first grid point, at a middle one and at the last: what it leaves in every buffer. -/
module

public import proofs.«01_k».proof.Proof.KernelIdeal.Tile
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.FrameBody
public import Idealize.ShloMosaic.Lib.ValueIdxCoords
public import proofs.«01_k».proof.Proof.KernelIdeal.LoopRun

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

/-- The body at the first point: the column sums start from zero. -/
theorem runA (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (hc1 : Scalar.cmpi .ne (Scalar.extui (Scalar.cmpi .eq (BitVec.ofNat 32 (i 0).val) 0#32)) (0#32 : BitVec 32) = 1#1) (hc2 : ¬ k0_cond2 i = 1#1)
    (x0 x1 : Vec F S128x12288 .bf16) (x7 : Vec F S12288x100 .f32) (s : Vec F S96x128x128 .f32) (K : PUnit → sProp 𝕄) :
    (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare x7 ∗ owns (c : Thread nD τ) arg8 fullShare s
        ∗ (iprop(owns (c : Thread nD τ) arg1 fullShare x0 ∗ owns (c : Thread nD τ) arg2 fullShare x1 ∗ owns (c : Thread nD τ) arg3 fullShare (out2 x0 x1 k0_pay1) ∗ owns (c : Thread nD τ) arg4 fullShare (out3 x0 x1) ∗ owns (c : Thread nD τ) arg5 fullShare (out4 x0 x1)
            ∗ owns (c : Thread nD τ) arg6 fullShare (out5 x0 x1) ∗ owns (c : Thread nD τ) arg7 fullShare x7 ∗ owns (c : Thread nD τ) arg8 fullShare (nextS x0 x1 (i 0).val s)) -∗ K ⟨⟩)) : sProp 𝕄)
      ⊢ wp frame (wpE (defs₀ (F := F)) 𝒱 (c : Thread nD τ) bd) E (cc0__body (F := F) i arg1 harg1 arg2 harg2 arg3 harg3 arg4 harg4 arg5 harg5 arg6 harg6 arg7 harg7 arg8 harg8) K := by
  simp only [cc0__body_eq_skeleton]; unfold cc0__body_skel
  unfold owns
  iintro ⟨⟨%f1, %h1, H1⟩, ⟨%f2, %h2, H2⟩, ⟨%d3, %f3, %h3, H3⟩, ⟨%d4, %f4, %h4, H4⟩, ⟨%d5, %f5, %h5, H5⟩, ⟨%d6, %f6, %h6, H6⟩, ⟨%f7, %h7, H7⟩, ⟨%f8, %h8, H8⟩, Hk⟩
  obtain rfl := harg1.eq_unread h1; obtain rfl := harg2.eq_unread h2
  sl_exec (disch := first | sl_exact hc1 | sl_exact hc2)
  iapply (loop1_run 𝒱 c bd E i arg1 harg1 arg2 harg2 arg3 harg3 arg4 harg4 arg5 harg5 arg6 harg6 arg7 harg7 arg8 harg8 x0 x1 k0_pay1 s k0_pay2)
  unfold owns
  isplitl [H1]; · iexists _; isplitr; · ipureintro; exact h1
                  iexact H1
  isplitl [H2]; · iexists _; isplitr; · ipureintro; exact h2
                  iexact H2
  isplitl [H3]; · iexists (arg3.view.writes (Elt F) arg3.view.junk [⟨Rect.unit (s := S1x12288) ![0, 0] S1x12288.size inb_S1x12288_S1x12288_0_0, k0_pay1 (F := F)⟩])
                  isplitr; · ipureintro; exact read_store3 _ _ _
                  iexact H3
  isplitl [H4]; · iexists d4; iexists f4; isplitr; · ipureintro; exact h4
                  iexact H4
  isplitl [H6]; · iexists d6; iexists f6; isplitr; · ipureintro; exact h6
                  iexact H6
  isplitl [H8]; · iexists _; isplitr; · ipureintro; exact h8
                  iexact H8
  iintro %acc %hacc ⟨%g1, %k1, H1⟩ ⟨%g2, %k2, H2⟩ ⟨%g3, %k3, H3⟩ ⟨%g4, %k4, H4⟩ ⟨%g6, %k6, H6⟩ ⟨%g8, %k8, H8⟩
  sl_exec (disch := first | sl_exact hc1 | sl_exact hc2)
  sl_step
  iapply Hk
  isplitl [H1]; · iexists _; isplitr; · ipureintro; exact k1
                  iexact H1
  isplitl [H2]; · iexists _; isplitr; · ipureintro; exact k2
                  iexact H2
  isplitl [H3]; · iexists _; isplitr; · ipureintro; exact k3
                  iexact H3
  isplitl [H4]; · iexists _; isplitr; · ipureintro; exact k4
                  iexact H4
  isplitl [H5]; · iexists (arg5.view.writes (Elt F) f5 [⟨Rect.unit (s := S128x96) ![0, 0] S128x96.size inb_S128x96_S128x96_0_0, k0_pay7 acc⟩])
                  isplitr; · ipureintro; exact (read_store5 _ _ _).trans hacc
                  iexact H5
  isplitl [H6]; · iexists _; isplitr; · ipureintro; exact k6
                  iexact H6
  isplitl [H7]; · iexists _; isplitr; · ipureintro; exact h7
                  iexact H7
  iexists _; isplitr; · ipureintro; exact k8
  iexact H8

/-- The body at a middle point. -/
theorem runB (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (hc1 : ¬ Scalar.cmpi .ne (Scalar.extui (Scalar.cmpi .eq (BitVec.ofNat 32 (i 0).val) 0#32)) (0#32 : BitVec 32) = 1#1) (hc2 : ¬ k0_cond2 i = 1#1)
    (x0 x1 : Vec F S128x12288 .bf16) (b : Vec F S1x12288 .f32) (x7 : Vec F S12288x100 .f32) (s : Vec F S96x128x128 .f32) (K : PUnit → sProp 𝕄) :
    (iprop(owns (c : Thread nD τ) arg1 fullShare x0 ∗ owns (c : Thread nD τ) arg2 fullShare x1 ∗ owns (c : Thread nD τ) arg3 fullShare b ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare x7 ∗ owns (c : Thread nD τ) arg8 fullShare s
        ∗ (iprop(owns (c : Thread nD τ) arg1 fullShare x0 ∗ owns (c : Thread nD τ) arg2 fullShare x1 ∗ owns (c : Thread nD τ) arg3 fullShare (out2 x0 x1 b) ∗ owns (c : Thread nD τ) arg4 fullShare (out3 x0 x1) ∗ owns (c : Thread nD τ) arg5 fullShare (out4 x0 x1)
            ∗ owns (c : Thread nD τ) arg6 fullShare (out5 x0 x1) ∗ owns (c : Thread nD τ) arg7 fullShare x7 ∗ owns (c : Thread nD τ) arg8 fullShare (nextS x0 x1 (i 0).val s)) -∗ K ⟨⟩)) : sProp 𝕄)
      ⊢ wp frame (wpE (defs₀ (F := F)) 𝒱 (c : Thread nD τ) bd) E (cc0__body (F := F) i arg1 harg1 arg2 harg2 arg3 harg3 arg4 harg4 arg5 harg5 arg6 harg6 arg7 harg7 arg8 harg8) K := by
  simp only [cc0__body_eq_skeleton]; unfold cc0__body_skel
  unfold owns
  iintro ⟨⟨%f1, %h1, H1⟩, ⟨%f2, %h2, H2⟩, ⟨%f3, %h3, H3⟩, ⟨%d4, %f4, %h4, H4⟩, ⟨%d5, %f5, %h5, H5⟩, ⟨%d6, %f6, %h6, H6⟩, ⟨%f7, %h7, H7⟩, ⟨%f8, %h8, H8⟩, Hk⟩
  obtain rfl := harg1.eq_unread h1; obtain rfl := harg2.eq_unread h2
  sl_exec (disch := first | sl_exact hc1 | sl_exact hc2)
  iapply (loop1_run 𝒱 c bd E i arg1 harg1 arg2 harg2 arg3 harg3 arg4 harg4 arg5 harg5 arg6 harg6 arg7 harg7 arg8 harg8 x0 x1 b s k0_pay2)
  unfold owns
  isplitl [H1]; · iexists _; isplitr; · ipureintro; exact h1
                  iexact H1
  isplitl [H2]; · iexists _; isplitr; · ipureintro; exact h2
                  iexact H2
  isplitl [H3]; · iexists f3
                  isplitr; · ipureintro; exact h3
                  iexact H3
  isplitl [H4]; · iexists d4; iexists f4; isplitr; · ipureintro; exact h4
                  iexact H4
  isplitl [H6]; · iexists d6; iexists f6; isplitr; · ipureintro; exact h6
                  iexact H6
  isplitl [H8]; · iexists _; isplitr; · ipureintro; exact h8
                  iexact H8
  iintro %acc %hacc ⟨%g1, %k1, H1⟩ ⟨%g2, %k2, H2⟩ ⟨%g3, %k3, H3⟩ ⟨%g4, %k4, H4⟩ ⟨%g6, %k6, H6⟩ ⟨%g8, %k8, H8⟩
  sl_exec (disch := first | sl_exact hc1 | sl_exact hc2)
  sl_step
  iapply Hk
  isplitl [H1]; · iexists _; isplitr; · ipureintro; exact k1
                  iexact H1
  isplitl [H2]; · iexists _; isplitr; · ipureintro; exact k2
                  iexact H2
  isplitl [H3]; · iexists _; isplitr; · ipureintro; exact k3
                  iexact H3
  isplitl [H4]; · iexists _; isplitr; · ipureintro; exact k4
                  iexact H4
  isplitl [H5]; · iexists (arg5.view.writes (Elt F) f5 [⟨Rect.unit (s := S128x96) ![0, 0] S128x96.size inb_S128x96_S128x96_0_0, k0_pay7 acc⟩])
                  isplitr; · ipureintro; exact (read_store5 _ _ _).trans hacc
                  iexact H5
  isplitl [H6]; · iexists _; isplitr; · ipureintro; exact k6
                  iexact H6
  isplitl [H7]; · iexists _; isplitr; · ipureintro; exact h7
                  iexact H7
  iexists _; isplitr; · ipureintro; exact k8
  iexact H8

/-- The body at the last point: the collected column scales are written. -/
theorem runC (𝒱 : Variants) (c : Dev nD) (bd : Option 𝒱.V) (E : Set ℕ) (i : grid0.Coords) (arg1 : Memref sig .tc .vmem S128x12288 .bf16) (harg1 : arg1.IsWhole) (arg2 : Memref sig .tc .vmem S128x12288 .bf16) (harg2 : arg2.IsWhole) (arg3 : Memref sig .tc .vmem S1x12288 .f32) (harg3 : arg3.IsWhole) (arg4 : Memref sig .tc .vmem S128x12288 .fp8e5m2) (harg4 : arg4.IsWhole) (arg5 : Memref sig .tc .vmem S128x96 .f32) (harg5 : arg5.IsWhole) (arg6 : Memref sig .tc .vmem S12288x128 .fp8e5m2) (harg6 : arg6.IsWhole) (arg7 : Memref sig .tc .vmem S12288x100 .f32) (harg7 : arg7.IsWhole) (arg8 : Memref sig .tc .vmem S96x128x128 .f32) (harg8 : arg8.IsWhole)
    (hc1 : ¬ Scalar.cmpi .ne (Scalar.extui (Scalar.cmpi .eq (BitVec.ofNat 32 (i 0).val) 0#32)) (0#32 : BitVec 32) = 1#1) (hc2 : k0_cond2 i = 1#1)
    (x0 x1 : Vec F S128x12288 .bf16) (b : Vec F S1x12288 .f32) (s : Vec F S96x128x128 .f32) (K : PUnit → sProp 𝕄) :
    (iprop(owns (c : Thread nD τ) arg1 fullShare x0 ∗ owns (c : Thread nD τ) arg2 fullShare x1 ∗ owns (c : Thread nD τ) arg3 fullShare b ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare (out2 x0 x1 b) ∗ owns (c : Thread nD τ) arg4 fullShare (out3 x0 x1) ∗ owns (c : Thread nD τ) arg5 fullShare (out4 x0 x1)
            ∗ owns (c : Thread nD τ) arg6 fullShare (out5 x0 x1) ∗ owns (c : Thread nD τ) arg7 fullShare (out6 (nextS x0 x1 (i 0).val s)) ∗ owns (c : Thread nD τ) arg8 fullShare (nextS x0 x1 (i 0).val s)) -∗ K ⟨⟩)) : sProp 𝕄)
      ⊢ wp frame (wpE (defs₀ (F := F)) 𝒱 (c : Thread nD τ) bd) E (cc0__body (F := F) i arg1 harg1 arg2 harg2 arg3 harg3 arg4 harg4 arg5 harg5 arg6 harg6 arg7 harg7 arg8 harg8) K := by
  simp only [cc0__body_eq_skeleton]; unfold cc0__body_skel
  unfold owns
  iintro ⟨⟨%f1, %h1, H1⟩, ⟨%f2, %h2, H2⟩, ⟨%f3, %h3, H3⟩, ⟨%d4, %f4, %h4, H4⟩, ⟨%d5, %f5, %h5, H5⟩, ⟨%d6, %f6, %h6, H6⟩, ⟨%d7, %f7, %h7, H7⟩, ⟨%f8, %h8, H8⟩, Hk⟩
  obtain rfl := harg1.eq_unread h1; obtain rfl := harg2.eq_unread h2
  sl_exec (disch := first | sl_exact hc1 | sl_exact hc2)
  iapply (loop1_run 𝒱 c bd E i arg1 harg1 arg2 harg2 arg3 harg3 arg4 harg4 arg5 harg5 arg6 harg6 arg7 harg7 arg8 harg8 x0 x1 b s k0_pay2)
  unfold owns
  isplitl [H1]; · iexists _; isplitr; · ipureintro; exact h1
                  iexact H1
  isplitl [H2]; · iexists _; isplitr; · ipureintro; exact h2
                  iexact H2
  isplitl [H3]; · iexists f3
                  isplitr; · ipureintro; exact h3
                  iexact H3
  isplitl [H4]; · iexists d4; iexists f4; isplitr; · ipureintro; exact h4
                  iexact H4
  isplitl [H6]; · iexists d6; iexists f6; isplitr; · ipureintro; exact h6
                  iexact H6
  isplitl [H8]; · iexists _; isplitr; · ipureintro; exact h8
                  iexact H8
  iintro %acc %hacc ⟨%g1, %k1, H1⟩ ⟨%g2, %k2, H2⟩ ⟨%g3, %k3, H3⟩ ⟨%g4, %k4, H4⟩ ⟨%g6, %k6, H6⟩ ⟨%g8, %k8, H8⟩
  sl_exec (disch := first | sl_exact hc1 | sl_exact hc2)
  iapply (loop2_run 𝒱 c bd E i arg1 harg1 arg2 harg2 arg3 harg3 arg4 harg4 arg5 harg5 arg6 harg6 arg7 harg7 arg8 harg8 hc2 (nextS x0 x1 (i 0).val s))
  unfold owns
  isplitl [H8]; · iexists _; isplitr; · ipureintro; exact k8
                  iexact H8
  isplitl [H7]; · iexists d7; iexists f7; isplitr; · ipureintro; exact h7
                  iexact H7
  iintro ⟨%g8', %l8, H8⟩ ⟨%g7, %k7, H7⟩
  sl_exec
  sl_step
  iapply Hk
  isplitl [H1]; · iexists _; isplitr; · ipureintro; exact k1
                  iexact H1
  isplitl [H2]; · iexists _; isplitr; · ipureintro; exact k2
                  iexact H2
  isplitl [H3]; · iexists _; isplitr; · ipureintro; exact k3
                  iexact H3
  isplitl [H4]; · iexists _; isplitr; · ipureintro; exact k4
                  iexact H4
  isplitl [H5]; · iexists (arg5.view.writes (Elt F) arg5.view.junk [⟨Rect.unit (s := S128x96) ![0, 0] S128x96.size inb_S128x96_S128x96_0_0, k0_pay7 acc⟩])
                  isplitr; · ipureintro; exact (read_store5 _ _ _).trans hacc
                  iexact H5
  isplitl [H6]; · iexists _; isplitr; · ipureintro; exact k6
                  iexact H6
  isplitl [H7]; · iexists _; isplitr; · ipureintro; exact k7
                  iexact H7
  iexists _; isplitr; · ipureintro; exact l8
  iexact H8

end Cert.KernelIdeal.Hand

end
-- ==== Proof.KernelIdeal.Data.lean ====
/- What every buffer holds around each grid point: the pipeline's proof data. -/
module

public import proofs.«01_k».proof.Proof.KernelIdeal.Body
public import proofs.«01_k».proof.Proof.Gen.KernelIdeal.Frame
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions of the body -/

/-- The condition of the body's first `scf.if`. -/
abbrev condA (i : grid0.Coords) : Prop := Scalar.cmpi .ne (Scalar.extui (Scalar.cmpi .eq (BitVec.ofNat 32 (i 0).val) 0#32)) (0#32 : BitVec 32) = 1#1
theorem coord_val (t : Fin cfg0.N) : (grid0.coords t 0).val = t.val := by
  have ht : t.val < 100 := Nat.lt_of_lt_of_eq t.isLt N_0
  have e0 : (grid0.coords t 0).val = t.val / 1 % 100 := Pipeline.Grid.coords_val t 0 (by decide) rfl
  omega
theorem hcondA (t : Fin cfg0.N) : condA (grid0.coords t) ↔ t.val = 0 := by
  have ht : t.val < 100 := Nat.lt_of_lt_of_eq t.isLt N_0
  have h : ∀ n : Fin 100, (Scalar.cmpi .ne (Scalar.extui (Scalar.cmpi .eq (BitVec.ofNat 32 n.val) 0#32)) (0#32 : BitVec 32) = 1#1) ↔ n.val = 0 := by decide +kernel
  simp only [condA, coord_val]
  exact h ⟨t.val, ht⟩
theorem hcondC (t : Fin cfg0.N) : k0_cond2 (grid0.coords t) = 1#1 ↔ t.val = 99 := by
  have ht : t.val < 100 := Nat.lt_of_lt_of_eq t.isLt N_0
  have h : ∀ n : Fin 100, (Scalar.cmpi .ne (Scalar.extui (Scalar.cmpi .eq (BitVec.ofNat 32 n.val) 99#32)) (0#32 : BitVec 32) = 1#1) ↔ n.val = 99 := by decide +kernel
  simp only [k0_cond2, coord_val]
  exact h ⟨t.val, ht⟩

theorem idle6 (t : Fin cfg0.N) (h : t.val ≠ 99) : cfg0.idle 6 (grid0.coords t) = true := by
  show (!(k0_cond2 (grid0.coords t) == 1#1)) = true
  have := mt (hcondC t).mp h
  simp [this]
theorem live6 (t : Fin cfg0.N) (h : t.val = 99) : cfg0.idle 6 (grid0.coords t) = false := by
  show (!(k0_cond2 (grid0.coords t) == 1#1)) = false
  have := (hcondC t).mpr h
  simp [this]
theorem noFlush6 (t : Fin cfg0.N) (h : t.val ≠ 99) : (cfg0.win 6).flush t = false :=
  Bool.eq_false_iff.mpr fun hf => by
    have := (flush0_6 t).mp hf
    have ht : t.val < 100 := Nat.lt_of_lt_of_eq t.isLt N_0
    omega

/-- The staging memref of window 0 at point `t`. -/
abbrev ms0 (t : Fin cfg0.N) : Memref sig .tc .vmem S128x12288 .bf16 := win0_0.stage (cfg0.slots t 0)
abbrev hs0 (t : Fin cfg0.N) : (ms0 t).IsWhole := hstage0_0 ((cfg0.slots t 0).cast nbuf0_0)
/-- The staging memref of window 1 at point `t`. -/
abbrev ms1 (t : Fin cfg0.N) : Memref sig .tc .vmem S128x12288 .bf16 := win0_1.stage (cfg0.slots t 1)
abbrev hs1 (t : Fin cfg0.N) : (ms1 t).IsWhole := hstage0_1 ((cfg0.slots t 1).cast nbuf0_1)
/-- The staging memref of window 2 at point `t`. -/
abbrev ms2 (t : Fin cfg0.N) : Memref sig .tc .vmem S1x12288 .f32 := win0_2.stage (cfg0.slots t 2)
abbrev hs2 (t : Fin cfg0.N) : (ms2 t).IsWhole := hstage0_2 ((cfg0.slots t 2).cast nbuf0_2)
/-- The staging memref of window 3 at point `t`. -/
abbrev ms3 (t : Fin cfg0.N) : Memref sig .tc .vmem S128x12288 .fp8e5m2 := win0_3.stage (cfg0.slots t 3)
abbrev hs3 (t : Fin cfg0.N) : (ms3 t).IsWhole := hstage0_3 ((cfg0.slots t 3).cast nbuf0_3)
/-- The staging memref of window 4 at point `t`. -/
abbrev ms4 (t : Fin cfg0.N) : Memref sig .tc .vmem S128x96 .f32 := win0_4.stage (cfg0.slots t 4)
abbrev hs4 (t : Fin cfg0.N) : (ms4 t).IsWhole := hstage0_4 ((cfg0.slots t 4).cast nbuf0_4)
/-- The staging memref of window 5 at point `t`. -/
abbrev ms5 (t : Fin cfg0.N) : Memref sig .tc .vmem S12288x128 .fp8e5m2 := win0_5.stage (cfg0.slots t 5)
abbrev hs5 (t : Fin cfg0.N) : (ms5 t).IsWhole := hstage0_5 ((cfg0.slots t 5).cast nbuf0_5)
/-- The staging memref of window 6 at point `t`. -/
abbrev ms6 (t : Fin cfg0.N) : Memref sig .tc .vmem S12288x100 .f32 := win0_6.stage (cfg0.slots t 6)
abbrev hs6 (t : Fin cfg0.N) : (ms6 t).IsWhole := hstage0_6 ((cfg0.slots t 6).cast nbuf0_6)
/-- The scratch. -/
abbrev scM : Memref sig .tc .vmem S96x128x128 .f32 := Memref.whole cc0_scratch0

theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the points leave -/

/-- The block of the first input at point `t`. -/
def bx0 (c : Dev nD) (t : Fin cfg0.N) : Vec F S128x12288 .bf16 := iblk m c 0 t
/-- The block of the second input at point `t`. -/
def bx1 (c : Dev nD) (t : Fin cfg0.N) : Vec F S128x12288 .bf16 := iblk m c 1 t

/-- The column sums after point `n`. -/
def dbs (c : Dev nD) : (n : ℕ) → n < cfg0.N → Vec F S1x12288 .f32
  | 0, h => out2 (bx0 m c ⟨0, h⟩) (bx1 m c ⟨0, h⟩) k0_pay1
  | n + 1, h => out2 (bx0 m c ⟨n + 1, h⟩) (bx1 m c ⟨n + 1, h⟩) (dbs c n (Nat.lt_of_succ_lt h))

theorem dbs_zero (c : Dev nD) (t : Fin cfg0.N) (h : t.val = 0) : dbs m c t.val t.isLt = out2 (bx0 m c t) (bx1 m c t) k0_pay1 := by
  obtain ⟨n, hn⟩ := t
  cases n with
  | zero => rfl
  | succ n => exact absurd h (Nat.succ_ne_zero n)
theorem dbs_pos (c : Dev nD) (t : Fin cfg0.N) (h : t.val ≠ 0) :
    dbs m c t.val t.isLt = out2 (bx0 m c t) (bx1 m c t) (dbs m c (t.val - 1) (Nat.lt_of_le_of_lt (Nat.sub_le _ _) t.isLt)) := by
  obtain ⟨n, hn⟩ := t
  cases n with
  | zero => exact absurd rfl h
  | succ n => rfl

/-- The column scales of all points as the scratch holds them: slab `j`, row `r`, column `l` is point `r`'s scale of column `l` of tile `j`. -/
def csAll (c : Dev nD) : Vec F S96x128x128 .f32 := fun y =>
  if h : (y 1).val < cfg0.N then csB (bx0 m c ⟨(y 1).val, h⟩) (bx1 m c ⟨(y 1).val, h⟩) (y 0) (y 2)
  else k0_pay1 (ix2 (0 : Fin 1) (0 : Fin 12288))

/-- The scratch's rows of the points before `n` are filled. -/
def Filled (c : Dev nD) (n : ℕ) (s : Vec F S96x128x128 .f32) : Prop := ∀ y : S96x128x128.Idx, (y 1).val < n → s y = csAll m c y

theorem Filled.next (c : Dev nD) (t : Fin cfg0.N) {s : Vec F S96x128x128 .f32} (h : Filled m c t.val s) :
    Filled m c (t.val + 1) (nextS (bx0 m c t) (bx1 m c t) (grid0.coords t 0).val s) := by
  intro y hy
  unfold nextS
  rw [coord_val]
  by_cases he : (y 1).val = t.val
  · rw [if_pos he]
    unfold csAll
    have hlt : (y 1).val < cfg0.N := he ▸ t.isLt
    rw [dif_pos hlt]
    have : (⟨(y 1).val, hlt⟩ : Fin cfg0.N) = t := Fin.ext he
    rw [this]
  · rw [if_neg he]; exact h y (by omega)

theorem out6At_eq (s : Vec F S96x128x128 .f32) (k : Fin k0_t2_loop.trips) (l : Fin 128) (r : Fin 100) :
    out6At s k l r = s (ix3 (⟨k.val, Nat.lt_of_lt_of_eq k.isLt trips2⟩ : Fin 96) (⟨r.val, by omega⟩ : Fin 128) l) := by
  unfold out6At k0_pay8
  dsimp only
  have h1 : ∀ (w : Vec F S128x128 .f32), extractStridedSlice S128x100 ![0, 0] w slices_S128x128_o0_0_S128x100 (ix2 l r) = w (ix2 l (⟨r.val, by omega⟩ : Fin 128)) := fun w =>
    extractStridedSlice_apply _ w slices_S128x128_o0_0_S128x100 (ix2 l r) _ (fun d => match d with | ⟨0, _⟩ => (Nat.zero_add _).symm | ⟨1, _⟩ => (Nat.zero_add _).symm)
  have h2 : ∀ (w : Vec F S128x128 .f32) (a b : Fin 128), transpose S128x128 [1, 0] w transposes_S128x128_p1_0_S128x128 (ix2 a b) = w (ix2 b a) := fun w a b =>
    transpose_apply _ w transposes_S128x128_p1_0_S128x128 (ix2 a b) (ix2 b a) (fun d => match d with | ⟨0, _⟩ => rfl | ⟨1, _⟩ => rfl)
  refine (h1 _).trans ((h2 _ _ _).trans ?_)
  refine (shapeCast_dropUnit_apply ![128, 128] _ shapeCasts_S1x128x128_S128x128 _).trans ?_
  refine congrArg s (funext fun d => Fin.ext ?_)
  rw [Rect.idx_unit_val]
  match d with
  | ⟨0, _⟩ => exact congrArg (· + 0) (congrFun (off5_eq k) 0)
  | ⟨1, _⟩ => exact (congrArg (· + r.val) (congrFun (off5_eq k) 1)).trans (Nat.zero_add _)
  | ⟨2, _⟩ => exact (congrArg (· + l.val) (congrFun (off5_eq k) 2)).trans (Nat.zero_add _)

/-- What the last point writes depends only on the rows of the points. -/
theorem out6_at (s : Vec F S96x128x128 .f32) (y : S12288x100.Idx) :
    out6 s y = s (ix3 (⟨(y 0).val / 128, by have := (y 0).isLt; change (y 0).val < 12288 at this; omega⟩ : Fin 96)
      (⟨(y 1).val, by have := (y 1).isLt; change (y 1).val < 100 at this; omega⟩ : Fin 128) (tl (y 0))) :=
  out6At_eq s (tk2 (y 0)) (tl (y 0)) (y 1)

theorem Filled.out6 (c : Dev nD) {s : Vec F S96x128x128 .f32} (h : Filled m c 100 s) : out6 s = out6 (csAll m c) := by
  funext y
  rw [out6_at, out6_at]
  exact h _ (y 1).isLt

/-! ## The proof data -/

/-- The region invariant before point `n`: the scratch with the rows of the points before filled, the generator register at some state. -/
def PhiS (c : Dev nD) (n : ℕ) : sProp 𝕄 :=
  iprop((∃ s, ⌜Filled m c n s⌝ ∗ owns (c : Thread nD τ) scM fullShare s) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dbs m c t.val t.isLt
    | ⟨3, _⟩ => out3 (bx0 m c t) (bx1 m c t)
    | ⟨4, _⟩ => out4 (bx0 m c t) (bx1 m c t)
    | ⟨5, _⟩ => out5 (bx0 m c t) (bx1 m c t)
    | ⟨6, _⟩ => out6 (csAll m c)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = dbs m c t.val t.isLt := by dsimp only [dats]
theorem after3 (c : Dev nD) (t : Fin cfg0.N) : (dats m 0 c).after 3 t = out3 (bx0 m c t) (bx1 m c t) := by dsimp only [dats]
theorem after4 (c : Dev nD) (t : Fin cfg0.N) : (dats m 0 c).after 4 t = out4 (bx0 m c t) (bx1 m c t) := by dsimp only [dats]
theorem after5 (c : Dev nD) (t : Fin cfg0.N) : (dats m 0 c).after 5 t = out5 (bx0 m c t) (bx1 m c t) := by dsimp only [dats]
theorem after6 (c : Dev nD) (t : Fin cfg0.N) : (dats m 0 c).after 6 t = out6 (csAll m c) := by dsimp only [dats]

theorem before0 (c : Dev nD) (t : Fin cfg0.N) (d) : (dats m 0 c).before 0 t d = bx0 m c t :=
  before0_0_of m (dats m 0 c) (A_eq m c 0) (after0 m c) t d
theorem before1 (c : Dev nD) (t : Fin cfg0.N) (d) : (dats m 0 c).before 1 t d = bx1 m c t :=
  before0_1_of m (dats m 0 c) (A_eq m c 1) (after1 m c) t d
theorem before2 (c : Dev nD) (t : Fin cfg0.N) (h0 : t.val ≠ 0) (d) :
    (dats m 0 c).before 2 t d = dbs m c (t.val - 1) (Nat.lt_of_le_of_lt (Nat.sub_le _ _) t.isLt) := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dats]

end Cert.KernelIdeal.Hand

end
-- ==== Proof.KernelIdeal.Run.lean ====
/- The body's triple at every grid point, the run of the whole program, and its frame. -/
module

public import proofs.«01_k».proof.Proof.KernelIdeal.Data
public import Idealize.ShloMosaic.Lib.Pipeline.FrameSuffix
public import Idealize.ShloMosaic.Lib.Claim

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix1 ix2 ix3)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) (h : t.val = 99) : (dats m 0 c).leavesExact 6 t = owns (c : Thread nD τ) (ms6 t) fullShare ((dats m 0 c).after 6 t) := by
  unfold Dat.leavesExact; rw [show cfg0.idle 6 (cfg0.grid.coords t) = false from live6 t h]

/-- The body at the first point. -/
theorem soundA (c : Dev nD) (t : Fin cfg0.N) (h0 : t.val = 0) :
    bodyPre m c t ⊢ wp frame (wpE (defs₀ (F := F)) Variants.none c none) Set.univ (bodyAt0 t) (fun _ => bodyPost m c t) := by
  have h1 : t.val ≠ 99 := by omega
  have hPost : bodyPost m c t = iprop(PhiS m c (t.val + 1) ∗ (dats m 0 c).owesAt () t.castSucc
      ∗ owns (c : Thread nD τ) (ms0 t) fullShare (bx0 m c t) ∗ owns (c : Thread nD τ) (ms1 t) fullShare (bx1 m c t)
      ∗ owns (c : Thread nD τ) (ms2 t) fullShare (out2 (bx0 m c t) (bx1 m c t) k0_pay1)
      ∗ owns (c : Thread nD τ) (ms3 t) fullShare (out3 (bx0 m c t) (bx1 m c t)) ∗ owns (c : Thread nD τ) (ms4 t) fullShare (out4 (bx0 m c t) (bx1 m c t))
      ∗ owns (c : Thread nD τ) (ms5 t) fullShare (out5 (bx0 m c t) (bx1 m c t)) ∗ (∃ d, owns (c : Thread nD τ) (ms6 t) fullShare ((dats m 0 c).before 6 t d))) := by
    unfold bodyPost
    rw [leaves0, leaves1, leaves2, leaves3, leaves4, leaves5, Dat.leavesExact_idle (dats m 0 c) 6 t (idle6 t h1) (noFlush6 t h1), after0, after1, after2, after3, after4, after5, dbs_zero m c t h0]
    rfl
  rw [hPost]
  unfold bodyPre bodyAt0
  simp only [before0, before1]
  rw [show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (runA Variants.none c none Set.univ (grid0.coords t) (ms0 t) (hs0 t) (ms1 t) (hs1 t) (ms2 t) (hs2 t) (ms3 t) (hs3 t) (ms4 t) (hs4 t) (ms5 t) (hs5 t) (ms6 t) (hs6 t)
    scM (Memref.isWhole_whole _) ((hcondA t).mpr h0) (fun h => h1 ((hcondC t).mp h)) (bx0 m c t) (bx1 m c t)  ((dats m 0 c).before 6 t d6) s _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  isplitl [HS]; · iexact HS
  iintro ⟨H0, H1, H2, H3, H4, H5, H6, HS⟩
  isplitl [HS Hg]
  · isplitl [HS]
    · iexists _; isplitr; · ipureintro; exact Filled.next m c t hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a middle point. -/
theorem soundB (c : Dev nD) (t : Fin cfg0.N) (h0 : t.val ≠ 0) (h1 : t.val ≠ 99) :
    bodyPre m c t ⊢ wp frame (wpE (defs₀ (F := F)) Variants.none c none) Set.univ (bodyAt0 t) (fun _ => bodyPost m c t) := by
  have hPost : bodyPost m c t = iprop(PhiS m c (t.val + 1) ∗ (dats m 0 c).owesAt () t.castSucc
      ∗ owns (c : Thread nD τ) (ms0 t) fullShare (bx0 m c t) ∗ owns (c : Thread nD τ) (ms1 t) fullShare (bx1 m c t)
      ∗ owns (c : Thread nD τ) (ms2 t) fullShare (out2 (bx0 m c t) (bx1 m c t) (dbs m c (t.val - 1) (Nat.lt_of_le_of_lt (Nat.sub_le _ _) t.isLt)))
      ∗ owns (c : Thread nD τ) (ms3 t) fullShare (out3 (bx0 m c t) (bx1 m c t)) ∗ owns (c : Thread nD τ) (ms4 t) fullShare (out4 (bx0 m c t) (bx1 m c t))
      ∗ owns (c : Thread nD τ) (ms5 t) fullShare (out5 (bx0 m c t) (bx1 m c t)) ∗ (∃ d, owns (c : Thread nD τ) (ms6 t) fullShare ((dats m 0 c).before 6 t d))) := by
    unfold bodyPost
    rw [leaves0, leaves1, leaves2, leaves3, leaves4, leaves5, Dat.leavesExact_idle (dats m 0 c) 6 t (idle6 t h1) (noFlush6 t h1), after0, after1, after2, after3, after4, after5, dbs_pos m c t h0]
    rfl
  rw [hPost]
  unfold bodyPre bodyAt0
  simp only [before0, before1, before2 m c t h0]
  rw [show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (runB Variants.none c none Set.univ (grid0.coords t) (ms0 t) (hs0 t) (ms1 t) (hs1 t) (ms2 t) (hs2 t) (ms3 t) (hs3 t) (ms4 t) (hs4 t) (ms5 t) (hs5 t) (ms6 t) (hs6 t)
    scM (Memref.isWhole_whole _) (fun h => h0 ((hcondA t).mp h)) (fun h => h1 ((hcondC t).mp h)) (bx0 m c t) (bx1 m c t) (dbs m c (t.val - 1) (Nat.lt_of_le_of_lt (Nat.sub_le _ _) t.isLt)) ((dats m 0 c).before 6 t d6) s _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS]; · iexact HS
  iintro ⟨H0, H1, H2, H3, H4, H5, H6, HS⟩
  isplitl [HS Hg]
  · isplitl [HS]
    · iexists _; isplitr; · ipureintro; exact Filled.next m c t hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at the last point. -/
theorem soundC (c : Dev nD) (t : Fin cfg0.N) (h1 : t.val = 99) :
    bodyPre m c t ⊢ wp frame (wpE (defs₀ (F := F)) Variants.none c none) Set.univ (bodyAt0 t) (fun _ => bodyPost m c t) := by
  have h0 : t.val ≠ 0 := by omega
  have hPost : bodyPost m c t = iprop(PhiS m c (t.val + 1) ∗ (dats m 0 c).owesAt () t.castSucc
      ∗ owns (c : Thread nD τ) (ms0 t) fullShare (bx0 m c t) ∗ owns (c : Thread nD τ) (ms1 t) fullShare (bx1 m c t)
      ∗ owns (c : Thread nD τ) (ms2 t) fullShare (out2 (bx0 m c t) (bx1 m c t) (dbs m c (t.val - 1) (Nat.lt_of_le_of_lt (Nat.sub_le _ _) t.isLt)))
      ∗ owns (c : Thread nD τ) (ms3 t) fullShare (out3 (bx0 m c t) (bx1 m c t)) ∗ owns (c : Thread nD τ) (ms4 t) fullShare (out4 (bx0 m c t) (bx1 m c t))
      ∗ owns (c : Thread nD τ) (ms5 t) fullShare (out5 (bx0 m c t) (bx1 m c t)) ∗ owns (c : Thread nD τ) (ms6 t) fullShare (out6 (csAll m c))) := by
    unfold bodyPost
    rw [leaves0, leaves1, leaves2, leaves3, leaves4, leaves5, leaves6 m c t h1, after6, after0, after1, after2, after3, after4, after5, dbs_pos m c t h0]
    rfl
  rw [hPost]
  unfold bodyPre bodyAt0
  simp only [before0, before1, before2 m c t h0]
  rw [show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (runC Variants.none c none Set.univ (grid0.coords t) (ms0 t) (hs0 t) (ms1 t) (hs1 t) (ms2 t) (hs2 t) (ms3 t) (hs3 t) (ms4 t) (hs4 t) (ms5 t) (hs5 t) (ms6 t) (hs6 t)
    scM (Memref.isWhole_whole _) (fun h => h0 ((hcondA t).mp h)) ((hcondC t).mpr h1) (bx0 m c t) (bx1 m c t) (dbs m c (t.val - 1) (Nat.lt_of_le_of_lt (Nat.sub_le _ _) t.isLt))  s _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS]; · iexact HS
  iintro ⟨H0, H1, H2, H3, H4, H5, H6, HS⟩
  isplitl [HS Hg]
  · isplitl [HS]
    · iexists _; isplitr; · ipureintro; exact Filled.next m c t hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← Filled.out6 m c (by have h := Filled.next m c t hs; rw [h1] at h; exact h)]
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h1 : t.val = 99
    · exact soundC m c t h1
    · exact soundB m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d; isplitr; · ipureintro; exact fun y h => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%d, -, HS⟩, Hg⟩
  isplitl [HS]
  · iexists d; iexact HS
  iexact Hg

/-! ## The run and the frame -/

set_option backward.isDefEq.respectTransparency.types false in
/-- The run of the whole program: every array at what the proof data say, the result of the last reshape, every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Value.Exponent.lean ====
/- The power-of-two scale of a group, twice, over the extended reals: the kernel's binary search for the exponent field
   with its integer arithmetic on the patterns, and the reference's logarithm, floor and power. They agree below 2^126. -/
module

public import Idealize.ShloMosaic.PureOps.Ideal

@[expose] public section

noncomputable section

namespace Cert.Alg

open Idealize.ShloMosaic

/-- The float whose exponent field is `b` and whose other bits are zero. -/
def expf (b : BitVec 32) : EReal := Ideal.ofBits .f32 (IntOp.shli ArithUnit.vector b 23#32)

/-- One step of the search: `b` more if the value is not below the float of that exponent field. -/
def stepE (v : EReal) (e b : BitVec 32) : BitVec 32 := if v < expf (IntOp.addi e b) then e else IntOp.addi e b

/-- The search for the exponent field. -/
def srch (v : EReal) : BitVec 32 := stepE v (stepE v (stepE v (stepE v (stepE v (stepE v (stepE v (stepE v 0#32 128#32) 64#32) 32#32) 16#32) 8#32) 4#32) 2#32) 1#32

/-- The pattern of the scale made from the exponent field found. -/
def sWord (e : BitVec 32) : BitVec 32 :=
  if IntOp.shli ArithUnit.vector e 23#32 = 0#32 then 1065353216#32 else IntOp.addi (IntOp.shli ArithUnit.vector e 23#32) 8388608#32

/-- The kernel's scale -/
def scK (v : EReal) : EReal := Ideal.ofBits .f32 (sWord (srch v))
/-- and its inverse. -/
def ivK (v : EReal) : EReal := Ideal.ofBits .f32 (IntOp.subi 2130706432#32 (sWord (srch v)))

/-- The reference's exponent. -/
def expR (v : EReal) : EReal :=
  if v < Ideal.ofBits .f32 8388608#32 then Ideal.ofBits .f32 0#32
  else Ideal.liftRound Int.floor (Ideal.log v * (((Real.log 2)⁻¹ : ℝ) : EReal)) + Ideal.ofBits .f32 1065353216#32
/-- The reference's scale -/
def scR (v : EReal) : EReal := Ideal.exp2 (expR v)
/-- and its inverse. -/
def ivR (v : EReal) : EReal := Ideal.exp2 (Ideal.ofBits .f32 0#32 - expR v)

/-! ## Patterns -/

theorem ieee_fields (b : BitVec 32) (n : Nat) (k1 : (b.extractLsb' 31 1 == 1#1) = false) (k2 : (b.extractLsb' 23 8).toNat = n)
    (k3 : (b.extractLsb' 0 23).toNat = 0) (h0 : n ≠ 0) (h : n ≠ 255) : Ideal.ieee 8 23 b = (((2 : ℝ) ^ ((n : ℤ) - 127) : ℝ) : EReal) := by
  unfold Ideal.ieee
  simp only [Nat.reduceAdd, Nat.reducePow, Nat.reduceSub, Int.reducePow, Int.reduceSub, k1, k2, k3]
  rw [if_neg h, if_neg h0]
  refine congrArg (fun r : ℝ => (r : EReal)) ?_
  rw [if_neg (by simp), one_mul]
  rw [show ((8388608 + 0 : ℕ) : ℝ) = (2 : ℝ) ^ (23 : ℤ) from by norm_num, ← zpow_add₀ (by norm_num)]
  refine congrArg (fun z : ℤ => (2 : ℝ) ^ z) ?_
  push_cast
  ring

theorem pow_fields : ∀ n : Fin 256, ((BitVec.ofNat 32 n.val <<< 23).extractLsb' 31 1 == 1#1) = false
      ∧ ((BitVec.ofNat 32 n.val <<< 23).extractLsb' 23 8).toNat = n.val ∧ ((BitVec.ofNat 32 n.val <<< 23).extractLsb' 0 23).toNat = 0 := by decide +kernel

theorem ieee_pow (n : Nat) (h0 : 1 ≤ n) (h : n ≤ 254) : Ideal.ofBits .f32 (BitVec.ofNat 32 n <<< 23) = (((2 : ℝ) ^ ((n : ℤ) - 127) : ℝ) : EReal) := by
  have k := pow_fields ⟨n, Nat.lt_of_le_of_lt h (by decide)⟩
  exact ieee_fields _ n k.1 k.2.1 k.2.2 (by omega) (by omega)

theorem ofBits_zero : Ideal.ofBits .f32 0#32 = 0 := by
  simp [Ideal.ofBits, Ideal.ieee]

theorem ofBits_one : Ideal.ofBits .f32 1065353216#32 = 1 := by
  have h := ieee_pow 127 (by norm_num) (by norm_num)
  rw [show (BitVec.ofNat 32 127 <<< 23 : BitVec 32) = 1065353216#32 from by decide] at h
  rw [h]; norm_num

theorem ofBits_tiny : Ideal.ofBits .f32 8388608#32 = (((2 : ℝ) ^ (-126 : ℤ) : ℝ) : EReal) := by
  have h := ieee_pow 1 (by norm_num) (by norm_num)
  rw [show (BitVec.ofNat 32 1 <<< 23 : BitVec 32) = 8388608#32 from by decide] at h
  rw [h]; norm_num

theorem ofBits_inf : Ideal.ofBits .f32 (BitVec.ofNat 32 255 <<< 23) = ⊤ := by
  have h : (BitVec.ofNat 32 255 <<< 23 : BitVec 32) = 0x7F800000#32 := by decide
  rw [h]; simp [Ideal.ofBits, Ideal.ieee]

theorem shl23 (b : BitVec 32) : IntOp.shli ArithUnit.vector b 23#32 = b <<< 23 := by
  unfold IntOp.shli; rfl

/-! ## The search finds the exponent field -/

/-- The search over naturals. -/
def stepN (k : Nat) (e b : BitVec 32) : BitVec 32 := if k < (e + b).toNat then e else e + b

def chainN (k : Nat) : Nat → BitVec 32
  | 0 => 0#32
  | i + 1 => stepN k (chainN k i) (BitVec.ofNat 32 (2 ^ (7 - i)))

theorem chainN_lt : ∀ (k : Fin 254) (i : Fin 8), 1 ≤ (chainN k.val i.val + BitVec.ofNat 32 (2 ^ (7 - i.val))).toNat
    ∧ (chainN k.val i.val + BitVec.ofNat 32 (2 ^ (7 - i.val))).toNat ≤ 255 := by decide +kernel

theorem chainN_eq : ∀ k : Fin 254, chainN k.val 8 = BitVec.ofNat 32 k.val := by decide +kernel

/-- `k` is the exponent field of the value `v`. -/
def IsExp (v : EReal) (k : Nat) : Prop := ∀ n : Nat, 1 ≤ n → n ≤ 255 → (v < expf (BitVec.ofNat 32 n) ↔ k < n)

theorem stepE_eq {v : EReal} {k : Nat} (hk : IsExp v k) (e b : BitVec 32) (h : 1 ≤ (e + b).toNat ∧ (e + b).toNat ≤ 255) :
    stepE v e b = stepN k e b := by
  unfold stepE stepN
  have := hk (e + b).toNat h.1 h.2
  rw [BitVec.ofNat_toNat, BitVec.setWidth_eq] at this
  show (if v < expf (e + b) then e else e + b) = _
  by_cases c : k < (e + b).toNat
  · rw [if_pos c, if_pos (this.mpr c)]
  · rw [if_neg c, if_neg (fun h => c (this.mp h))]

theorem srch_eq {v : EReal} {k : Nat} (hk : IsExp v k) (h : k < 254) : srch v = BitVec.ofNat 32 k := by
  have st : ∀ i : Fin 8, stepE v (chainN k i.val) (BitVec.ofNat 32 (2 ^ (7 - i.val))) = chainN k (i.val + 1) :=
    fun i => stepE_eq hk _ _ (chainN_lt ⟨k, h⟩ i)
  unfold srch
  rw [show (0#32 : BitVec 32) = chainN k 0 from rfl, show (128#32 : BitVec 32) = BitVec.ofNat 32 (2 ^ (7 - (0 : Fin 8).val)) from rfl]
  have s0 := st 0; have s1 := st 1; have s2 := st 2; have s3 := st 3; have s4 := st 4; have s5 := st 5; have s6 := st 6; have s7 := st 7
  exact (by
    have := chainN_eq ⟨k, h⟩
    rw [← this]
    refine Eq.trans ?_ s7
    refine congrArg (stepE v · 1#32) ?_
    refine Eq.trans ?_ s6
    refine congrArg (stepE v · 2#32) ?_
    refine Eq.trans ?_ s5
    refine congrArg (stepE v · 4#32) ?_
    refine Eq.trans ?_ s4
    refine congrArg (stepE v · 8#32) ?_
    refine Eq.trans ?_ s3
    refine congrArg (stepE v · 16#32) ?_
    refine Eq.trans ?_ s2
    refine congrArg (stepE v · 32#32) ?_
    refine Eq.trans ?_ s1
    refine congrArg (stepE v · 64#32) ?_
    exact s0)

theorem isExp_of (v : ℝ) (k : Nat) (h : ∀ n : Nat, 1 ≤ n → n ≤ 254 → (v < (2 : ℝ) ^ ((n : ℤ) - 127) ↔ k < n)) (hk : k < 254) : IsExp v k := by
  intro n h1 h2
  unfold expf
  rw [shl23]
  by_cases h3 : n = 255
  · subst h3; rw [ofBits_inf]; exact ⟨fun _ => by omega, fun _ => EReal.coe_lt_top v⟩
  · rw [ieee_pow n h1 (by omega), EReal.coe_lt_coe_iff]; exact h n h1 (by omega)

/-! ## The two scales agree -/

theorem rpow_int (n : ℤ) : Ideal.exp2 (((n : ℝ) : EReal)) = (((2 : ℝ) ^ n : ℝ) : EReal) := by
  rw [Ideal.exp2_coe]; congr 1; exact Real.rpow_intCast 2 n

theorem sWord_zero : sWord (BitVec.ofNat 32 0) = 1065353216#32 := by decide +kernel

theorem sWord_pos : ∀ k : Fin 253, k.val ≠ 0 → sWord (BitVec.ofNat 32 k.val) = BitVec.ofNat 32 (k.val + 1) <<< 23
    ∧ IntOp.subi 2130706432#32 (sWord (BitVec.ofNat 32 k.val)) = BitVec.ofNat 32 (253 - k.val) <<< 23 := by decide +kernel

theorem scK_of {v : EReal} {k : Nat} (hs : srch v = BitVec.ofNat 32 k) (h0 : k ≠ 0) (h1 : k < 253) :
    scK v = (((2 : ℝ) ^ ((k : ℤ) - 126) : ℝ) : EReal) := by
  have w := (sWord_pos ⟨k, h1⟩ h0).1
  unfold scK
  rw [hs]
  refine (congrArg (Ideal.ofBits .f32) w).trans ((ieee_pow (k + 1) (by omega) (by omega)).trans ?_)
  refine congrArg (fun z : ℤ => (((2 : ℝ) ^ z : ℝ) : EReal)) ?_
  push_cast; ring

theorem ivK_of {v : EReal} {k : Nat} (hs : srch v = BitVec.ofNat 32 k) (h0 : k ≠ 0) (h1 : k < 253) :
    ivK v = (((2 : ℝ) ^ (126 - (k : ℤ)) : ℝ) : EReal) := by
  have w := (sWord_pos ⟨k, h1⟩ h0).2
  unfold ivK
  rw [hs]
  refine (congrArg (Ideal.ofBits .f32) w).trans ((ieee_pow (253 - k) (by omega) (by omega)).trans ?_)
  refine congrArg (fun z : ℤ => (((2 : ℝ) ^ z : ℝ) : EReal)) ?_
  omega

/-- The two scales, and the two inverses, of a value below 2^126 are the same. -/
theorem scale_eq (v : EReal) (h0 : 0 ≤ v) (h1 : v < (((2 : ℝ) ^ (126 : ℤ) : ℝ) : EReal)) : scK v = scR v ∧ ivK v = ivR v := by
  induction v with
  | bot => exact absurd h0 (by simp)
  | top => exact absurd h1 (by simp)
  | coe v =>
  rw [EReal.coe_nonneg] at h0
  rw [EReal.coe_lt_coe_iff] at h1
  by_cases ht : v < (2 : ℝ) ^ (-126 : ℤ)
  · have hk : IsExp v 0 := isExp_of v 0 (fun n h _ => ⟨fun _ => h, fun _ => lt_of_lt_of_le ht (zpow_le_zpow_right₀ (by norm_num) (by omega))⟩) (by norm_num)
    have hs : srch v = BitVec.ofNat 32 0 := srch_eq hk (by norm_num)
    have he : expR v = ((((0 : ℤ) : ℝ)) : EReal) := by
      unfold expR; rw [if_pos (by rw [ofBits_tiny, EReal.coe_lt_coe_iff]; exact ht), ofBits_zero]; simp
    constructor
    · unfold scK scR; rw [hs, he, sWord_zero, ofBits_one, rpow_int]; simp
    · unfold ivK ivR
      rw [hs, he, sWord_zero, show IntOp.subi (2130706432#32) (1065353216#32) = (1065353216#32 : BitVec 32) from by decide, ofBits_one, ofBits_zero]
      rw [show (0 : EReal) - (((0 : ℤ) : ℝ) : EReal) = ((((0 : ℤ) : ℝ)) : EReal) from by simp, rpow_int]; simp
  · have ht' : (2 : ℝ) ^ (-126 : ℤ) ≤ v := not_lt.mp ht
    have hv : 0 < v := lt_of_lt_of_le (by positivity) ht'
    set L : ℤ := ⌊Real.log v * (Real.log 2)⁻¹⌋ with hL
    have l2 : 0 < Real.log 2 := Real.log_pos (by norm_num)
    have hlow : ∀ n : ℤ, n ≤ L ↔ (2 : ℝ) ^ n ≤ v := fun n => by
      rw [hL, Int.le_floor, ← div_eq_mul_inv, le_div_iff₀ l2, ← Real.log_zpow, Real.log_le_log_iff (by positivity) hv]
    have hL1 : -126 ≤ L := (hlow _).mpr ht'
    have hL2 : L < 126 := not_le.mp fun h => absurd ((hlow _).mp h) (not_le.mpr h1)
    obtain ⟨k, hk⟩ : ∃ k : Nat, (k : ℤ) = L + 127 := ⟨(L + 127).toNat, Int.toNat_of_nonneg (by omega)⟩
    have hkE : IsExp v k := isExp_of v k (fun n _ _ => by rw [← not_le, ← hlow]; omega) (by omega)
    have hs : srch v = BitVec.ofNat 32 k := srch_eq hkE (by omega)
    have he : expR v = ((((L + 1 : ℤ) : ℝ)) : EReal) := by
      unfold expR
      rw [if_neg (by rw [ofBits_tiny, EReal.coe_lt_coe_iff]; exact ht), ofBits_one, Ideal.log_coe, if_neg (not_le.mpr hv), ← EReal.coe_mul,
        Ideal.liftRound_coe, ← hL]
      push_cast; rfl
    constructor
    · rw [scK_of hs (by omega) (by omega)]
      unfold scR; rw [he, rpow_int]
      refine congrArg (fun z : ℤ => (((2 : ℝ) ^ z : ℝ) : EReal)) ?_
      omega
    · rw [ivK_of hs (by omega) (by omega)]
      unfold ivR
      rw [he, ofBits_zero, show (0 : EReal) - (((L + 1 : ℤ) : ℝ) : EReal) = ((((-(L + 1) : ℤ) : ℝ)) : EReal) from by
        rw [zero_sub, ← EReal.coe_neg, Int.cast_neg], rpow_int]
      refine congrArg (fun z : ℤ => (((2 : ℝ) ^ z : ℝ) : EReal)) ?_
      omega

end Cert.Alg

end
-- ==== Proof.Value.Gelu.lean ====
/- The derivative of GELU over the extended reals, in the kernel's form and in the reference's: the two are equal at every
   point, infinities included, and at most 5/2 in size. -/
module

public import proofs.«01_k».proof.Proof.Value.Exponent

@[expose] public section

noncomputable section

namespace Cert.Alg

open Idealize.ShloMosaic

/-- The constant sqrt(2/pi). -/
def K : ℝ := Real.sqrt (2 * Real.pi⁻¹)

theorem K_pos : 0 < K := Real.sqrt_pos.mpr (by positivity)

/-- The kernel's argument of the hyperbolic tangent, -/
def uK (x : EReal) : EReal := x * (x * x * ((K * (8943 / 200000) : ℝ) : EReal) + ((K : ℝ) : EReal))
/-- its second factor, -/
def wK (x : EReal) : EReal := x * (x * x * ((3 / 2 * K * (8943 / 200000) : ℝ) : EReal) + ((1 / 2 * K : ℝ) : EReal))
/-- and its derivative. -/
def fK (x : EReal) : EReal :=
  (Ideal.ofBits .f32 1065353216#32 + Ideal.tanh (uK x))
    * (Ideal.ofBits .f32 1056964608#32 + (Ideal.ofBits .f32 1065353216#32 - Ideal.tanh (uK x)) * wK x)

/-- The reference's argument of the hyperbolic tangent, -/
def uR (x : EReal) : EReal := ((K : ℝ) : EReal) * x * (Ideal.ofBits .f32 1065353216#32 + ((8943 / 200000 : ℝ) : EReal) * (x * x))
/-- and its derivative. -/
def fR (x : EReal) : EReal :=
  Ideal.ofBits .f32 1056964608#32 * (Ideal.ofBits .f32 1065353216#32 + Ideal.tanh (uR x))
    + Ideal.ofBits .f32 1056964608#32 * x * (Ideal.ofBits .f32 1065353216#32 - Ideal.tanh (uR x) * Ideal.tanh (uR x)) * ((K : ℝ) : EReal)
      * (Ideal.ofBits .f32 1065353216#32 + ((26829 / 200000 : ℝ) : EReal) * (x * x))

theorem ofBits_half : Ideal.ofBits .f32 1056964608#32 = ((1 / 2 : ℝ) : EReal) := by
  have h := ieee_pow 126 (by norm_num) (by norm_num)
  rw [show (BitVec.ofNat 32 126 <<< 23 : BitVec 32) = 1056964608#32 from by decide] at h
  rw [h]; norm_num

/-- The derivative at a real, as a real. -/
def fr (x : ℝ) : ℝ :=
  (1 + Real.tanh (x * (x * x * (K * (8943 / 200000)) + K)))
    * (1 / 2 + (1 - Real.tanh (x * (x * x * (K * (8943 / 200000)) + K))) * (x * (x * x * (3 / 2 * K * (8943 / 200000)) + 1 / 2 * K)))

theorem fK_coe (x : ℝ) : fK x = (fr x : EReal) := by
  unfold fK fr uK wK
  rw [ofBits_one, ofBits_half, ← EReal.coe_one]
  simp only [← EReal.coe_mul, ← EReal.coe_add, Ideal.tanh_coe, ← EReal.coe_sub]

theorem fR_coe (x : ℝ) : fR x = (fr x : EReal) := by
  have hu : K * x * (1 + 8943 / 200000 * (x * x)) = x * (x * x * (K * (8943 / 200000)) + K) := by ring
  unfold fR uR fr
  rw [ofBits_one, ofBits_half, ← EReal.coe_one]
  simp only [← EReal.coe_mul, ← EReal.coe_add, Ideal.tanh_coe, ← EReal.coe_sub, hu]
  refine congrArg (fun r : ℝ => (r : EReal)) ?_
  ring

theorem fK_top : fK ⊤ = 1 := by
  have hu : uK ⊤ = ⊤ := by
    unfold uK
    rw [EReal.top_mul_top, EReal.top_mul_coe_of_pos (by have := K_pos; positivity), EReal.top_add_coe, EReal.top_mul_top]
  have hw : ∃ w, wK ⊤ = w := ⟨_, rfl⟩
  unfold fK
  rw [hu, Ideal.tanh_top, ofBits_one, ofBits_half]
  rw [show (1 : EReal) - 1 = 0 from by rw [← EReal.coe_one, ← EReal.coe_sub]; norm_num, zero_mul, add_zero, ← EReal.coe_one, ← EReal.coe_add, ← EReal.coe_mul]
  norm_num

theorem fK_bot : fK ⊥ = 0 := by
  have hu : uK ⊥ = ⊥ := by
    unfold uK
    rw [EReal.bot_mul_bot, EReal.top_mul_coe_of_pos (by have := K_pos; positivity), EReal.top_add_coe, EReal.bot_mul_top]
  unfold fK
  rw [hu, Ideal.tanh_bot, ofBits_one]
  rw [show (1 : EReal) + -1 = 0 from by rw [← EReal.coe_one, ← EReal.coe_neg, ← EReal.coe_add]; norm_num, zero_mul]

theorem fR_top : fR ⊤ = 1 := by
  have hu : uR ⊤ = ⊤ := by
    unfold uR
    rw [EReal.top_mul_top, EReal.coe_mul_top_of_pos K_pos, EReal.coe_mul_top_of_pos (by norm_num), ofBits_one, ← EReal.coe_one, EReal.coe_add_top, EReal.top_mul_top]
  unfold fR
  rw [hu, Ideal.tanh_top, ofBits_one, ofBits_half, mul_one]
  rw [show (1 : EReal) - 1 = 0 from by rw [← EReal.coe_one, ← EReal.coe_sub]; norm_num, mul_zero, zero_mul, zero_mul, add_zero, ← EReal.coe_one, ← EReal.coe_add, ← EReal.coe_mul]
  norm_num

theorem fR_bot : fR ⊥ = 0 := by
  have hu : uR ⊥ = ⊥ := by
    unfold uR
    rw [EReal.bot_mul_bot, EReal.coe_mul_bot_of_pos K_pos, EReal.coe_mul_top_of_pos (by norm_num), ofBits_one, ← EReal.coe_one, EReal.coe_add_top, EReal.bot_mul_top]
  unfold fR
  rw [hu, Ideal.tanh_bot, ofBits_one, ofBits_half]
  rw [show (1 : EReal) + -1 = 0 from by rw [← EReal.coe_one, ← EReal.coe_neg, ← EReal.coe_add]; norm_num,
    show (1 : EReal) - -1 * -1 = 0 from by rw [← EReal.coe_one, ← EReal.coe_neg, ← EReal.coe_mul, ← EReal.coe_sub]; norm_num, mul_zero, mul_zero, zero_mul, zero_mul, add_zero]

/-- The two forms are the same function. -/
theorem fK_eq_fR (x : EReal) : fK x = fR x := by
  induction x with
  | bot => rw [fK_bot, fR_bot]
  | top => rw [fK_top, fR_top]
  | coe x => rw [fK_coe, fR_coe]

/-! ## The size -/

/-- `u (1 - tanh² u)` is at most 1 in size. -/
theorem tanh_bound (u : ℝ) : |u| * (1 - Real.tanh u ^ 2) ≤ 1 ∧ 0 ≤ 1 - Real.tanh u ^ 2 ∧ |Real.tanh u| ≤ 1 := by
  have hc : 0 < Real.cosh u := Real.cosh_pos u
  have he : 1 - Real.tanh u ^ 2 = (Real.cosh u ^ 2)⁻¹ := by
    rw [Real.tanh_eq_sinh_div_cosh, div_pow]
    field_simp
    have := Real.cosh_sq u; linarith
  have hs : |u| ≤ |Real.sinh u| := by
    rcases le_total 0 u with h | h
    · rw [abs_of_nonneg h, abs_of_nonneg (Real.sinh_nonneg_iff.mpr h)]; exact Real.self_le_sinh_iff.mpr h
    · rw [abs_of_nonpos h, abs_of_nonpos (Real.sinh_nonpos_iff.mpr h)]; exact neg_le_neg (Real.sinh_le_self_iff.mpr h)
  have h2 : |u| ≤ Real.cosh u ^ 2 := by
    rw [Real.cosh_sq, ← sq_abs (Real.sinh u)]; nlinarith [sq_nonneg (|Real.sinh u| - 1), abs_nonneg (Real.sinh u)]
  have h0 : 0 ≤ 1 - Real.tanh u ^ 2 := by rw [he]; positivity
  refine ⟨?_, h0, ?_⟩
  · rw [he, ← div_eq_mul_inv, div_le_one (by positivity)]; exact h2
  · rw [abs_le]; constructor <;> nlinarith

theorem fr_bound (x : ℝ) : |fr x| ≤ 5 / 2 := by
  set u := x * (x * x * (K * (8943 / 200000)) + K) with hu
  set w := x * (x * x * (3 / 2 * K * (8943 / 200000)) + 1 / 2 * K) with hw
  obtain ⟨b1, b2, b3⟩ := tanh_bound u
  have hk := K_pos
  have hwu : |w| ≤ 3 / 2 * |u| := by
    rw [hw, hu, abs_mul, abs_mul, abs_of_nonneg (show 0 ≤ x * x * (3 / 2 * K * (8943 / 200000)) + 1 / 2 * K by have := mul_self_nonneg x; positivity),
      abs_of_nonneg (show 0 ≤ x * x * (K * (8943 / 200000)) + K by have := mul_self_nonneg x; positivity)]
    nlinarith [abs_nonneg x, mul_nonneg (abs_nonneg x) hk.le]
  have e : fr x = 1 / 2 * (1 + Real.tanh u) + (1 - Real.tanh u ^ 2) * w := by unfold fr; ring
  rw [e]
  have t1 : |1 / 2 * (1 + Real.tanh u)| ≤ 1 := by
    rw [abs_le] at b3 ⊢; constructor <;> linarith [b3.1, b3.2]
  have t2 : |(1 - Real.tanh u ^ 2) * w| ≤ 3 / 2 := by
    rw [abs_mul, abs_of_nonneg b2]; nlinarith
  exact (abs_add_le _ _).trans (by linarith)

theorem fK_bound (x : EReal) : ∃ r : ℝ, fK x = r ∧ |r| ≤ 5 / 2 := by
  induction x with
  | bot => exact ⟨0, by rw [fK_bot]; rfl, by norm_num⟩
  | top => exact ⟨1, by rw [fK_top]; rfl, by norm_num⟩
  | coe x => exact ⟨fr x, fK_coe x, fr_bound x⟩

end Cert.Alg

end
-- ==== Proof.Value.Spec.lean ====
/- What the five results are, as plain functions of one matrix of extended reals: a group's largest magnitude over 57344,
   the code of an element, and how the 12288 columns fall into 96 groups and the 12800 rows into 100. -/
module

public import proofs.«01_k».proof.Proof.Value.Gelu
public import Idealize.ShloMosaic.Lib.ValueIdxCoords

@[expose] public section

noncomputable section

namespace Cert.Alg

open Idealize.ShloMosaic

/-- The largest magnitude of a group of 128, over 57344. -/
def vmax (f : Fin 128 → EReal) : EReal :=
  Finset.univ.fold max (Ideal.ofBits .f32 4286578688#32) (fun k => max (f k) (-(f k))) * Ideal.ofBits .f32 932333861#32

/-- An element times the inverse scale, clipped. -/
def clampq (d iv : EReal) : EReal := min (max (d * iv) (Ideal.ofBits .f32 3344957440#32)) (Ideal.ofBits .f32 1197473792#32)

/-- Column `l` of column group `j`, -/
def cc (j : Fin 96) (l : Fin 128) : Fin 12288 := ⟨128 * j.val + l.val, by omega⟩
/-- the group of a column, -/
def ct (c : Fin 12288) : Fin 96 := ⟨c.val / 128, by omega⟩
/-- and the column's place in it. -/
def cl (c : Fin 12288) : Fin 128 := ⟨c.val % 128, Nat.mod_lt _ (by decide)⟩
theorem cc_ct (c : Fin 12288) : cc (ct c) (cl c) = c := Fin.ext (by show 128 * (c.val / 128) + c.val % 128 = c.val; omega)

/-- Row `r` of row group `t`, -/
def rr (t : Fin 100) (r : Fin 128) : Fin 12800 := ⟨128 * t.val + r.val, by omega⟩
/-- the group of a row, -/
def rt (R : Fin 12800) : Fin 100 := ⟨R.val / 128, by omega⟩
/-- and the row's place in it. -/
def rl (R : Fin 12800) : Fin 128 := ⟨R.val % 128, Nat.mod_lt _ (by decide)⟩
theorem rr_rt (R : Fin 12800) : rr (rt R) (rl R) = R := Fin.ext (by show 128 * (R.val / 128) + R.val % 128 = R.val; omega)

/-- The gradient times the derivative, at a row and a column. -/
def dA (g x : (⟨2, ![12800, 12288]⟩ : Shape).Idx → EReal) (R : Fin 12800) (C : Fin 12288) : EReal :=
  g (ValueIdx.ix2 R C) * fK (x (ValueIdx.ix2 R C))

section Results
variable (sc iv : EReal → EReal) (D : Fin 12800 → Fin 12288 → EReal)

/-- Row `R`'s group `j`: its largest magnitude over 57344. -/
def vRow (R : Fin 12800) (j : Fin 96) : EReal := vmax fun l => D R (cc j l)
/-- Column `C`'s group `t`: its largest magnitude over 57344. -/
def vCol (t : Fin 100) (C : Fin 12288) : EReal := vmax fun r => D (rr t r) C
/-- The column sums, -/
def resB (y : (⟨1, ![12288]⟩ : Shape).Idx) : EReal := ∑ R : Fin 12800, D R (y 0)
/-- the row codes, for the inverse scale `iv`, -/
def resRC (y : (⟨2, ![12800, 12288]⟩ : Shape).Idx) : EReal := clampq (D (y 0) (y 1)) (iv (vRow D (y 0) (ct (y 1))))
/-- the row scales, for the scale `sc`, -/
def resRS (y : (⟨2, ![12800, 96]⟩ : Shape).Idx) : EReal := sc (vRow D (y 0) (y 1))
/-- the column codes, -/
def resCC (y : (⟨2, ![12288, 12800]⟩ : Shape).Idx) : EReal := clampq (D (y 1) (y 0)) (iv (vCol D (rt (y 1)) (y 0)))
/-- and the column scales. -/
def resCS (y : (⟨2, ![12288, 100]⟩ : Shape).Idx) : EReal := sc (vCol D (y 1) (y 0))

end Results

end Cert.Alg

end
-- ==== Proof.Value.Tile.lean ====
/- The kernel's tile arithmetic read over the extended reals, element by element: the product of the gradient and the
   derivative, the group maxima, the bit search for the exponent, the scales and the codes. -/
module

public import proofs.«01_k».proof.Proof.KernelIdeal.Tile
public import proofs.«01_k».proof.Proof.Value.Spec
public import Idealize.ShloMosaic.Lib.Pointwise

@[expose] public section

set_option maxRecDepth 16384

noncomputable section

namespace Cert.Alg

open Idealize.ShloMosaic Cert.KernelIdeal Cert.KernelIdeal.Gen Cert.KernelIdeal.Hand

theorem select_eq {w : Nat} (x y : BitVec w) (a b : BitVec 32) : Scalar.select (IntOp.cmpi .eq x y) a b = if x = y then a else b := by
  by_cases h : x = y
  · simp [Scalar.select, IntOp.cmpi, h]
  · have hb : (x == y) = false := beq_eq_false_iff_ne.mpr h
    simp [Scalar.select, IntOp.cmpi, h, hb]

/-! ## The search -/

/-- One step of the search on a vector. -/
def stepV {s : Shape} (v : FVec Ideal s .f32) (e : IVec s 32) (b : BitVec 32) : IVec s 32 :=
  select (cmpf .olt v (bitcastToFloat .f32 (shli (addi e (broadcast s b)) (broadcast s 23#32)))) e (addi e (broadcast s b))

theorem stepV_apply {s : Shape} (v : FVec Ideal s .f32) (e : IVec s 32) (b : BitVec 32) (j : s.Idx) :
    stepV v e b j = stepE (v j) (e j) b := by
  pointwise [stepV, stepE, expf]

/-- The scale's word on a vector, from the exponent's field. -/
def wordV {s : Shape} (e : IVec s 32) : IVec s 32 :=
  select (cmpi .eq (shli e (broadcast s 23#32)) (broadcast s 0#32)) (broadcast s 1065353216#32)
    (addi (shli e (broadcast s 23#32)) (broadcast s 8388608#32))

theorem wordV_apply {s : Shape} (e : IVec s 32) (j : s.Idx) : wordV e j = sWord (e j) := by
  pointwise [wordV, sWord]
  exact select_eq _ _ _ _

theorem pay13_eq (v : FVec Ideal S128x1 .f32) : k0_pay13 v 0#32
    = stepV v (stepV v (stepV v (stepV v (stepV v (stepV v (broadcast S128x1 0#32) 128#32) 64#32) 32#32) 16#32) 8#32) 4#32 := by
  unfold k0_pay13 stepV; with_reducible rfl

theorem pay16_eq (v : FVec Ideal S128x1 .f32) (a : IVec S128x1 32) :
    k0_pay16 v a (addi a (broadcast S128x1 2#32)) k0_pay15 = wordV (stepV v (stepV v a 2#32) 1#32) := by
  unfold k0_pay16 k0_pay15 stepV wordV; with_reducible rfl

theorem pay20_eq (a : FVec Ideal S128x128 .f32) : k0_pay20 a = stepV (k0_pay19 a) (broadcast S1x128 0#32) 128#32 := by
  unfold k0_pay20 stepV; with_reducible rfl

theorem pay21_eq (v : FVec Ideal S1x128 .f32) (e : IVec S1x128 32) : k0_pay21 v e
    = stepV v (stepV v (stepV v (stepV v (stepV v (stepV v e 64#32) 32#32) 16#32) 8#32) 4#32) 2#32 := by
  unfold k0_pay21 stepV; with_reducible rfl

theorem pay3_eq (v : FVec Ideal S1x128 .f32) (a : IVec S1x128 32) :
    k0_pay3 v a (addi a (broadcast S1x128 1#32)) (shli (addi a (broadcast S1x128 1#32)) (broadcast S1x128 23#32)) = wordV (stepV v a 1#32) := by
  unfold k0_pay3 stepV wordV; with_reducible rfl

/-- The word of a row's scale. -/
theorem rowWord (v : FVec Ideal S128x1 .f32) (j : S128x1.Idx) :
    k0_pay16 v (k0_pay13 v 0#32) (k0_pay14 v 0#32) k0_pay15 j = sWord (srch (v j)) := by
  rw [show k0_pay14 v 0#32 = addi (k0_pay13 v 0#32) (broadcast S128x1 2#32) from rfl, pay16_eq, wordV_apply, pay13_eq]
  simp only [stepV_apply]
  rfl

/-- The word of a column's scale. -/
theorem colWord (a : FVec Ideal S128x128 .f32) (j : S1x128.Idx) :
    k0_pay3 (k0_pay19 a) (k0_pay21 (k0_pay19 a) (k0_pay20 a)) (k0_pay22 (k0_pay19 a) (k0_pay20 a)) (k0_pay23 (k0_pay19 a) (k0_pay20 a)) j
      = sWord (srch (k0_pay19 a j)) := by
  rw [show k0_pay23 (k0_pay19 a) (k0_pay20 a) = shli (addi (k0_pay21 (k0_pay19 a) (k0_pay20 a)) (broadcast S1x128 1#32)) (broadcast S1x128 23#32) from rfl,
    show k0_pay22 (k0_pay19 a) (k0_pay20 a) = addi (k0_pay21 (k0_pay19 a) (k0_pay20 a)) (broadcast S1x128 1#32) from rfl, pay3_eq, wordV_apply,
    pay21_eq, pay20_eq]
  simp only [stepV_apply]
  rfl

/-! ## The payloads, element by element -/

theorem pay9 (g x : Vec Ideal S128x128 .bf16) (j : S128x128.Idx) : k0_pay9 g x j = g j * fK (x j) := by
  have e1 := IdealRules.named_const.ideal_named_scalar (φ := .f32) Cert.KernelIdeal.κ "kc" 0x3D122279#32 _ rfl
  have e2 := IdealRules.named_const.ideal_named_scalar (φ := .f32) Cert.KernelIdeal.κ "k" 0x3F4C422A#32 _ rfl
  have e3 := IdealRules.named_const.ideal_named_scalar (φ := .f32) Cert.KernelIdeal.κ "kc_three_halves" 0x3D5B33B6#32 _ rfl
  have e4 := IdealRules.named_const.ideal_named_scalar (φ := .f32) Cert.KernelIdeal.κ "half_k" 1053573674#32 _ rfl
  pointwise [k0_pay9, fK, uK, wK, e1, e2, e3, e4, K]

theorem pay12 (g x : Vec Ideal S128x128 .bf16) (j : S128x1.Idx) :
    k0_pay12 g x j = vmax (fun l => k0_pay9 g x (Idealize.ShloMosaic.ix2 (j 0) l)) := by
  pointwise [k0_pay12, k0_pay11, vmax]
  rfl

theorem pay19 (g x : Vec Ideal S128x128 .bf16) (j : S1x128.Idx) :
    k0_pay19 (k0_pay11 g x) j = vmax (fun r => k0_pay9 g x (Idealize.ShloMosaic.ix2 r (j 1))) := by
  pointwise [k0_pay19, k0_pay11, vmax]
  rfl

theorem pay10 (g x : Vec Ideal S128x128 .bf16) (b : Vec Ideal S1x128 .f32) (j : S1x128.Idx) :
    k0_pay10 g x b j = b j + ∑ r : Fin 128, k0_pay9 g x (Idealize.ShloMosaic.ix2 r (j 1)) := by
  pointwise [k0_pay10]

theorem pay18 (d : FVec Ideal S128x128 .f32) (v : FVec Ideal S128x1 .f32) (a b c : IVec S128x1 32) (j : S128x128.Idx) :
    k0_pay18 d v a b c j
      = clampq (d j) (Ideal.ofBits .f32 (IntOp.subi 2130706432#32 (k0_pay16 v a b c (Idealize.ShloMosaic.ix2 (j 0) 0)))) := by
  pointwise [k0_pay18, clampq]

theorem pay5 (d : FVec Ideal S128x128 .f32) (v : FVec Ideal S1x128 .f32) (a b c : IVec S1x128 32) (j : S128x128.Idx) :
    k0_pay5 d v a b c j
      = clampq (d (Idealize.ShloMosaic.ix2 (j 1) (j 0)))
          (Ideal.ofBits .f32 (IntOp.subi 2130706432#32 (k0_pay3 v a b c (Idealize.ShloMosaic.ix2 0 (j 0))))) := by
  pointwise [k0_pay5, clampq]

theorem pay17 (v : FVec Ideal S128x1 .f32) (a b c : IVec S128x1 32) (j : S128x1.Idx) :
    k0_pay17 v a b c j = Ideal.ofBits .f32 (k0_pay16 v a b c j) := by
  pointwise [k0_pay17]

theorem pay4 (v : FVec Ideal S1x128 .f32) (a b c : IVec S1x128 32) (j : S1x1x128.Idx) :
    k0_pay4 v a b c j = Ideal.ofBits .f32 (k0_pay3 v a b c (Idealize.ShloMosaic.ix2 0 (j 2))) := by
  pointwise [k0_pay4]

theorem pay8 (v : Vec Ideal S1x128x128 .f32) (l : Fin 128) (r : Fin 100) :
    k0_pay8 (F := Ideal) v (Idealize.ShloMosaic.ix2 l r) = v (Idealize.ShloMosaic.ix3 0 ⟨r.val, by omega⟩ l) := by
  pointwise [k0_pay8]

/-! ## The blocks -/

section Blocks
variable (x0 x1 : Vec Ideal S128x12288 .bf16)

theorem gT_apply (x : Vec Ideal S128x12288 .bf16) (j : Fin 96) (r l : Fin 128) :
    gT x (tj j) (ValueIdx.ix2 r l) = x (ValueIdx.ix2 r (cc j l)) := by
  refine congrArg x (funext fun a => Fin.ext ?_)
  have h := off1_eq (tj j)
  match a with
  | ⟨0, _⟩ =>
    show k0_off1 (tj j) 0 + 1 * r.val = r.val
    rw [h]; show 0 + 1 * r.val = r.val; omega
  | ⟨1, _⟩ =>
    show k0_off1 (tj j) 1 + 1 * l.val = 128 * j.val + l.val
    rw [h]; show 128 * j.val + 1 * l.val = _; omega

/-- The product on the block. -/
def dB (r : Fin 128) (c : Fin 12288) : EReal := x0 (ValueIdx.ix2 r c) * fK (x1 (ValueIdx.ix2 r c))

theorem dT_apply (j : Fin 96) (r l : Fin 128) : k0_pay9 (gT x0 (tj j)) (gT x1 (tj j)) (ValueIdx.ix2 r l) = dB x0 x1 r (cc j l) := by
  rw [pay9, gT_apply, gT_apply]; rfl

theorem rvT_apply (j : Fin 96) (y : S128x1.Idx) : rvT x0 x1 (tj j) y = vmax fun l => dB x0 x1 (y 0) (cc j l) := by
  unfold rvT; rw [pay12]
  exact congrArg vmax (funext fun l => dT_apply x0 x1 j (y 0) l)

theorem cvT_apply (j : Fin 96) (y : S1x128.Idx) : cvT x0 x1 (tj j) y = vmax fun r => dB x0 x1 r (cc j (y 1)) := by
  unfold cvT; rw [pay19]
  exact congrArg vmax (funext fun r => dT_apply x0 x1 j r (y 1))

theorem out3_apply (y : S128x12288.Idx) :
    out3 x0 x1 y = clampq (dB x0 x1 (y 0) (y 1)) (ivK (vmax fun l => dB x0 x1 (y 0) (cc (ct (y 1)) l))) := by
  show rcT x0 x1 (tj (ct (y 1))) (ValueIdx.ix2 (y 0) (cl (y 1))) = _
  unfold rcT; rw [pay18, rowWord, rvT_apply]
  refine congrArg (fun d => clampq d _) ?_
  refine (dT_apply x0 x1 (ct (y 1)) (y 0) (cl (y 1))).trans ?_
  exact congrArg (dB x0 x1 (y 0)) (cc_ct (y 1))

theorem out4_apply (y : S128x96.Idx) : out4 x0 x1 y = scK (vmax fun l => dB x0 x1 (y 0) (cc (y 1) l)) := by
  show rsT x0 x1 (tj (y 1)) (ValueIdx.ix2 (y 0) 0) = _
  unfold rsT; rw [pay17, rowWord]
  exact congrArg (fun v => Ideal.ofBits .f32 (sWord (srch v))) (rvT_apply x0 x1 (y 1) (ValueIdx.ix2 (y 0) 0))

theorem out5_apply (y : S12288x128.Idx) :
    out5 x0 x1 y = clampq (dB x0 x1 (y 1) (y 0)) (ivK (vmax fun r => dB x0 x1 r (y 0))) := by
  show ccT x0 x1 (tj (ct (y 0))) (ValueIdx.ix2 (cl (y 0)) (y 1)) = _
  unfold ccT; rw [pay5]
  have h1 := colWord (k0_pay11 (gT x0 (tj (ct (y 0)))) (gT x1 (tj (ct (y 0))))) (Idealize.ShloMosaic.ix2 0 (cl (y 0)))
  have h2 := cvT_apply x0 x1 (ct (y 0)) (Idealize.ShloMosaic.ix2 0 (cl (y 0)))
  have h3 : dT x0 x1 (tj (ct (y 0))) (ValueIdx.ix2 (y 1) (cl (y 0))) = dB x0 x1 (y 1) (y 0) :=
    (dT_apply x0 x1 (ct (y 0)) (y 1) (cl (y 0))).trans (congrArg (dB x0 x1 (y 1)) (cc_ct (y 0)))
  have h4 : (vmax fun r => dB x0 x1 r (cc (ct (y 0)) (cl (y 0)))) = vmax fun r => dB x0 x1 r (y 0) :=
    congrArg (fun c : Fin 12288 => vmax fun r => dB x0 x1 r c) (cc_ct (y 0))
  have h5 := h1.trans (congrArg (fun v => sWord (srch v)) (h2.trans h4))
  exact congrArg₂ clampq h3 (congrArg (fun w => Ideal.ofBits .f32 (IntOp.subi 2130706432#32 w)) h5)

theorem csB_apply (j : Fin 96) (l : Fin 128) : csB x0 x1 j l = scK (vmax fun r => dB x0 x1 r (cc j l)) := by
  show csT x0 x1 (tj j) (ValueIdx.ix3 (0 : Fin 1) (0 : Fin 1) l) = _
  unfold csT; rw [pay4]
  have h1 := colWord (k0_pay11 (gT x0 (tj j)) (gT x1 (tj j))) (Idealize.ShloMosaic.ix2 0 l)
  have h2 := cvT_apply x0 x1 j (Idealize.ShloMosaic.ix2 0 l)
  exact congrArg (Ideal.ofBits .f32) (h1.trans (congrArg (fun v => sWord (srch v)) h2))

theorem out2_apply (b : Vec Ideal S1x12288 .f32) (y : S1x12288.Idx) : out2 x0 x1 b y = b y + ∑ r : Fin 128, dB x0 x1 r (y 1) := by
  show dbT x0 x1 (tj (ct (y 1))) (View.ld b (Rect.unit (s := S1x12288) (k0_off2 (tj (ct (y 1)))) S1x128.size (k0_off2_inb _))) (ValueIdx.ix2 (y 0) (cl (y 1))) = _
  unfold dbT; rw [pay10]
  refine congrArg₂ (· + ·) (congrArg b (funext fun a => Fin.ext ?_)) (Finset.sum_congr rfl fun r _ => ?_)
  · have h := off2_eq (tj (ct (y 1)))
    match a with
    | ⟨0, _⟩ =>
      show k0_off2 (tj (ct (y 1))) 0 + 1 * (y 0).val = (y 0).val
      rw [h]; show 0 + 1 * (y 0).val = _; omega
    | ⟨1, _⟩ =>
      show k0_off2 (tj (ct (y 1))) 1 + 1 * ((y 1).val % 128) = (y 1).val
      rw [h]; show 128 * ((y 1).val / 128) + 1 * ((y 1).val % 128) = _; omega
  · exact (dT_apply x0 x1 (ct (y 1)) r (cl (y 1))).trans (congrArg (dB x0 x1 r) (cc_ct (y 1)))

end Blocks

theorem out6_apply (s : Vec Ideal S96x128x128 .f32) (y : S12288x100.Idx) :
    out6 s y = s (ValueIdx.ix3 (ct (y 0)) ⟨(y 1).val, by have := (y 1).isLt; exact lt_trans this (by decide)⟩ (cl (y 0))) := by
  show k0_pay8 (View.ld s (Rect.unit (s := S96x128x128) (k0_off5 (tk2 (y 0))) S1x128x128.size (inb5 _))) (ValueIdx.ix2 (cl (y 0)) (y 1)) = _
  refine (pay8 _ (cl (y 0)) (y 1)).trans (congrArg s (funext fun a => Fin.ext ?_))
  have h := off5_eq (tk2 (y 0))
  match a with
  | ⟨0, _⟩ =>
    show k0_off5 (tk2 (y 0)) 0 + 1 * 0 = (y 0).val / 128
    rw [h]; rfl
  | ⟨1, _⟩ =>
    show k0_off5 (tk2 (y 0)) 1 + 1 * (y 1).val = (y 1).val
    rw [h]; show 0 + 1 * (y 1).val = _; omega
  | ⟨2, _⟩ =>
    show k0_off5 (tk2 (y 0)) 2 + 1 * ((y 0).val % 128) = (y 0).val % 128
    rw [h]; show 0 + 1 * ((y 0).val % 128) = _; omega

end Cert.Alg

end
-- ==== Proof.Value.KerRun.lean ====
/- The kernel's run over the extended reals: its five result arrays, as functions of its two arguments. -/
module

public import proofs.«01_k».proof.Proof.KernelIdeal.Run
public import proofs.«01_k».proof.Proof.Value.Tile
public import Idealize.ShloMosaic.Lib.Pipeline.ValueKit
public import Idealize.ShloMosaic.Lib.Claim

@[expose] public section

set_option maxRecDepth 16384

noncomputable section

namespace Cert.Alg.Ker

open Idealize.ShloMosaic Cert.KernelIdeal Cert.KernelIdeal.Gen Cert.KernelIdeal.Hand
open Idealize.ShloMosaic.Pipeline

variable (m : (ℓ : Loc nD τ sig) → Buf (Elt Ideal) ℓ) (c : Dev nD)

/-- The gradient, -/
def aG : Vec Ideal S12800x12288 .bf16 := m ((c.tc : Thread nD τ).loc main_arg0)
/-- and the points of the derivative. -/
def aX : Vec Ideal S12800x12288 .bf16 := m ((c.tc : Thread nD τ).loc main_arg1)

/-- A grid point as a row group. -/
def tg (t : Fin cfg0.N) : Fin 100 := ⟨t.val, Nat.lt_of_lt_of_eq t.isLt N_0⟩

/-! ## Where the blocks lie -/

theorem ix0 : ∀ t : Fin cfg0.N, win0_0.index t 0 = t.val ∧ win0_0.index t 1 = 0 := by decide +kernel
theorem ix1 : ∀ t : Fin cfg0.N, win0_1.index t 0 = t.val ∧ win0_1.index t 1 = 0 := by decide +kernel
theorem ix2 : ∀ t : Fin cfg0.N, win0_2.index t 0 = 0 ∧ win0_2.index t 1 = 0 := by decide +kernel
theorem ix3 : ∀ t : Fin cfg0.N, win0_3.index t 0 = t.val ∧ win0_3.index t 1 = 0 := by decide +kernel
theorem ix4 : ∀ t : Fin cfg0.N, win0_4.index t 0 = t.val ∧ win0_4.index t 1 = 0 := by decide +kernel
theorem ix5 : ∀ t : Fin cfg0.N, win0_5.index t 0 = 0 ∧ win0_5.index t 1 = t.val := by decide +kernel
theorem ix6 : ∀ t : Fin cfg0.N, win0_6.index t 0 = 0 ∧ win0_6.index t 1 = 0 := by decide +kernel

theorem bx0_at (t : Fin cfg0.N) (r : Fin 128) (C : Fin 12288) :
    bx0 m c t (ValueIdx.ix2 r C) = aG m c (ValueIdx.ix2 (rr (tg t) r) C) := by
  blk_ext [bx0, iblk, V, aG, ix0 t, rr, tg]
  show t.val * 128 + r.val = 128 * t.val + r.val
  omega

theorem bx1_at (t : Fin cfg0.N) (r : Fin 128) (C : Fin 12288) :
    bx1 m c t (ValueIdx.ix2 r C) = aX m c (ValueIdx.ix2 (rr (tg t) r) C) := by
  blk_ext [bx1, iblk, V, aX, ix1 t, rr, tg]
  show t.val * 128 + r.val = 128 * t.val + r.val
  omega

/-- The products of the two arguments. -/
abbrev D : Fin 12800 → Fin 12288 → EReal := dA (aG m c) (aX m c)

theorem dB_at (t : Fin cfg0.N) (r : Fin 128) (C : Fin 12288) : dB (bx0 m c t) (bx1 m c t) r C = D m c (rr (tg t) r) C := by
  unfold dB; rw [bx0_at, bx1_at]; rfl

theorem dB_eq (t : Fin cfg0.N) : dB (bx0 m c t) (bx1 m c t) = fun r C => D m c (rr (tg t) r) C :=
  funext fun r => funext fun C => dB_at m c t r C

theorem rt_rr (t : Fin 100) (r : Fin 128) : rt (rr t r) = t := Fin.ext (by show (128 * t.val + r.val) / 128 = t.val; omega)

/-! ## The row codes and scales, the column codes -/

theorem blk3 (t : Fin cfg0.N) (y : S128x12288.Idx) :
    out3 (bx0 m c t) (bx1 m c t) y = resRC ivK (D m c) (ValueIdx.ix2 (rr (tg t) (y 0)) (y 1)) := by
  rw [out3_apply, dB_eq]; rfl

theorem blk4 (t : Fin cfg0.N) (y : S128x96.Idx) :
    out4 (bx0 m c t) (bx1 m c t) y = resRS scK (D m c) (ValueIdx.ix2 (rr (tg t) (y 0)) (y 1)) := by
  rw [out4_apply, dB_eq]; rfl

theorem blk5 (t : Fin cfg0.N) (y : S12288x128.Idx) :
    out5 (bx0 m c t) (bx1 m c t) y = resCC ivK (D m c) (ValueIdx.ix2 (y 0) (rr (tg t) (y 1))) := by
  rw [out5_apply, dB_eq]
  have h : rt (rr (tg t) (y 1)) = tg t := rt_rr _ _
  exact congrArg (fun u => clampq (D m c (rr (tg t) (y 1)) (y 0)) (ivK (vCol (D m c) u (y 0)))) h.symm

theorem emb3 (t : Fin cfg0.N) (y : S128x12288.Idx) : ((cfg0.win 3).blk t).view.emb y = ValueIdx.ix2 (rr (tg t) (y 0)) (y 1) := by
  blk_ext [ix3 t, rr, tg]

theorem emb4 (t : Fin cfg0.N) (y : S128x96.Idx) : ((cfg0.win 4).blk t).view.emb y = ValueIdx.ix2 (rr (tg t) (y 0)) (y 1) := by
  blk_ext [ix4 t, rr, tg]

theorem emb5 (t : Fin cfg0.N) (y : S12288x128.Idx) : ((cfg0.win 5).blk t).view.emb y = ValueIdx.ix2 (y 0) (rr (tg t) (y 1)) := by
  blk_ext [ix5 t, rr, tg]

theorem arr3 : (dats m 0 c).arrAt 3 cfg0.N = resRC ivK (D m c) := by
  refine (dats m 0 c).arrAt_eq_of_covers 3 _ (by decide +kernel) fun t hf y => ?_
  blk_simp; rw [after3]
  exact (blk3 m c t y).trans (congrArg (resRC ivK (D m c)) (emb3 t y)).symm

theorem arr4 : (dats m 0 c).arrAt 4 cfg0.N = resRS scK (D m c) := by
  refine (dats m 0 c).arrAt_eq_of_covers 4 _ (by decide +kernel) fun t hf y => ?_
  blk_simp; rw [after4]
  exact (blk4 m c t y).trans (congrArg (resRS scK (D m c)) (emb4 t y)).symm

theorem arr5 : (dats m 0 c).arrAt 5 cfg0.N = resCC ivK (D m c) := by
  refine (dats m 0 c).arrAt_eq_of_covers 5 _ (by decide +kernel) fun t hf y => ?_
  blk_simp; rw [after5]
  exact (blk5 m c t y).trans (congrArg (resCC ivK (D m c)) (emb5 t y)).symm

/-! ## The column scales, written whole at the last point -/

/-- The last point. -/
def tLast : Fin cfg0.N := ⟨99, Nat.lt_of_lt_of_eq (by decide) N_0.symm⟩

theorem csAll_at (y : S96x128x128.Idx) (t : Fin 100) (h : (y 1).val = t.val) :
    csAll m c y = scK (vCol (D m c) t (cc (y 0) (y 2))) := by
  have hN : (y 1).val < cfg0.N := by rw [h]; exact Nat.lt_of_lt_of_eq t.isLt N_0.symm
  unfold csAll
  rw [dif_pos hN]
  refine (csB_apply _ _ (y 0) (y 2)).trans ?_
  simp only [dB_at]
  have e : tg ⟨(y 1).val, hN⟩ = t := Fin.ext h
  rw [e]; rfl

theorem arr6 : (dats m 0 c).arrAt 6 cfg0.N = resCS scK (D m c) := by
  refine (dats m 0 c).arrAt_eq_of_after_last 6 tLast (by decide +kernel) _ fun y => ?_
  blk_simp; rw [after6]
  refine (out6_apply _ y).trans ((csAll_at m c _ (y 1) rfl).trans ?_)
  exact congrArg (fun C : Fin 12288 => scK (vCol (D m c) (y 1) C)) (cc_ct (y 0))

/-! ## The column sums, added up over the points -/

/-- Point `n`'s share of column `C`'s sum. -/
def part (C : Fin 12288) (n : ℕ) : EReal := if h : n < 100 then ∑ r : Fin 128, D m c (rr ⟨n, h⟩ r) C else 0

theorem part_at (t : Fin cfg0.N) (C : Fin 12288) : ∑ r : Fin 128, dB (bx0 m c t) (bx1 m c t) r C = part m c C t.val := by
  unfold part
  rw [dif_pos (Nat.lt_of_lt_of_eq t.isLt N_0)]
  exact Finset.sum_congr rfl fun r _ => dB_at m c t r C

theorem pay1_zero (y : S1x12288.Idx) : (k0_pay1 (F := Ideal)) y = 0 := by
  pointwise [k0_pay1]

theorem dbs_at (y : S1x12288.Idx) : ∀ (n : ℕ) (h : n < cfg0.N), dbs m c n h y = ∑ k ∈ Finset.range (n + 1), part m c (y 1) k
  | 0, h => by
    show out2 (bx0 m c ⟨0, h⟩) (bx1 m c ⟨0, h⟩) (k0_pay1 (F := Ideal)) y = _
    rw [out2_apply, pay1_zero, zero_add, Finset.sum_range_one]
    exact part_at m c ⟨0, h⟩ (y 1)
  | n + 1, h => by
    show out2 (bx0 m c ⟨n + 1, h⟩) (bx1 m c ⟨n + 1, h⟩) (dbs m c n (Nat.lt_of_succ_lt h)) y = _
    rw [out2_apply, dbs_at y n, Finset.sum_range_succ _ (n + 1)]
    exact congrArg (_ + ·) (part_at m c ⟨n + 1, h⟩ (y 1))

theorem sum_rows (f : Fin 12800 → EReal) : ∑ t : Fin 100, ∑ r : Fin 128, f (rr t r) = ∑ R : Fin 12800, f R := by
  rw [← Fintype.sum_prod_type']
  refine Fintype.sum_equiv (finProdFinEquiv (m := 100) (n := 128)) _ _ fun p => congrArg f (Fin.ext ?_)
  show 128 * p.1.val + p.2.val = p.2.val + 128 * p.1.val
  omega

theorem sum_parts (C : Fin 12288) : ∑ k ∈ Finset.range 100, part m c C k = ∑ R : Fin 12800, D m c R C := by
  rw [← sum_rows (fun R => D m c R C), Finset.sum_range]
  refine Finset.sum_congr rfl fun t _ => ?_
  unfold part
  rw [dif_pos t.isLt]

/-- The column sums as the kernel leaves them, a row of 12288. -/
def sums (y : S1x12288.Idx) : EReal := ∑ R : Fin 12800, D m c R (y 1)

theorem arr2 : (dats m 0 c).arrAt 2 cfg0.N = sums m c := by
  refine (dats m 0 c).arrAt_eq_of_after_last 2 tLast (by decide +kernel) _ fun y => ?_
  blk_simp; rw [after2]
  exact (dbs_at m c y 99 tLast.isLt).trans (sum_parts m c (y 1))

/-! ## The run -/

/-- The host's last line gives the row of sums as a vector. -/
theorem tailB : Pipeline.afterTail₀ cfgs (dats m) 0 (V0 m) [hostOps1] c main_v1 = resB (D m c) := by
  unfold Pipeline.afterTail₀
  rw [show ([hostOps1] : List (List (HloOp τ sig (Elt Ideal)))).flatten = [StableHlo.reshape main_v0_0 main_v1 (rfl : (.f32 : EltTy) = .f32) shapeCasts_S1x12288_S12288] from rfl,
    StableHlo.after_cons, StableHlo.after_nil]
  refine (StableHlo.reshape_result main_v0_0 main_v1 rfl shapeCasts_S1x12288_S12288 _ _ _).trans ?_
  have e := (Pipeline.withArrays_arr (τ := τ) spec0 launch0.win.arr_inj c (V0 m c) (fun w => (dats m 0 c).arrAt w cfg0.N) 2).trans (arr2 m c)
  funext y
  refine (congrArg (fun v : Vec Ideal S1x12288 .f32 => shapeCast S12288 v shapeCasts_S1x12288_S12288 y) e).trans ?_
  exact shapeCast_dropUnit_apply ![12288] (sums m c) shapeCasts_S1x12288_S12288 y

/-- The kernel ends with its five results at these values and its arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v1) = resB (D m c)
    ∧ r.2.mem ((c.tc : Thread nD τ).loc main_v0_1) = resRC ivK (D m c)
    ∧ r.2.mem ((c.tc : Thread nD τ).loc main_v0_2) = resRS scK (D m c)
    ∧ r.2.mem ((c.tc : Thread nD τ).loc main_v0_3) = resCC ivK (D m c)
    ∧ r.2.mem ((c.tc : Thread nD τ).loc main_v0_4) = resCS scK (D m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run _ _ _).mono (fun _ h c => ⟨((h.1.1 c).2 main_v1 (Pipeline.mem_restRefs_of main_v1 rfl (by decide))).trans (tailB m c),
    ((h.1.1 c).1 3).trans (arr3 m c), ((h.1.1 c).1 4).trans (arr4 m c), ((h.1.1 c).1 5).trans (arr5 m c), ((h.1.1 c).1 6).trans (arr6 m c), h.2.1 c⟩)
    (θ_run_and (run_main_quiescent m ρ) (frame m ρ))

end Cert.Alg.Ker

end
-- ==== Proof.Value.Ref.lean ====
/- The reference's five outputs read over the extended reals, element by element. -/
module

public import proofs.«01_k».proof.Proof.Gen.ReferenceIdeal.Frame
public import proofs.«01_k».proof.Proof.Value.Spec
public import Idealize.ShloMosaic.Lib.Pointwise
public import Idealize.ShloMosaic.Lib.Pipeline.ValueKit

@[expose] public section

set_option maxRecDepth 16384

noncomputable section

namespace Cert.Alg.Ref

open Idealize.ShloMosaic Cert.ReferenceIdeal Cert.ReferenceIdeal.Gen

/-- The largest magnitude over the last of three axes, over 57344, -/
theorem max3_a2 {n0 n1 n2 : Nat} (v : FVec Ideal ⟨3, ![n0, n1, n2]⟩ .f32) (h : Shape.Reduces (⟨3, ![n0, n1, n2]⟩ : Shape) [2] ⟨2, ![n0, n1]⟩)
    hφ hacc (j : Shape.Idx (⟨2, ![n0, n1]⟩ : Shape)) :
    mulf (multiReduction .maximumf [2] ⟨2, ![n0, n1]⟩ (absf v) 0xFF800000#32 h hφ hacc) (broadcast ⟨2, ![n0, n1]⟩ (Scalar.ofBits (F := Ideal) .f32 0x37924925#32)) j =
      Finset.univ.fold max (Ideal.ofBits .f32 4286578688#32) (fun k : Fin n2 => max (v (ix3 (j 0) (j 1) k)) (-(v (ix3 (j 0) (j 1) k))))
        * Ideal.ofBits .f32 932333861#32 := by
  pointwise []
  rfl

/-- and over the middle one. -/
theorem max3_a1 {n0 n1 n2 : Nat} (v : FVec Ideal ⟨3, ![n0, n1, n2]⟩ .f32) (h : Shape.Reduces (⟨3, ![n0, n1, n2]⟩ : Shape) [1] ⟨2, ![n0, n2]⟩)
    hφ hacc (j : Shape.Idx (⟨2, ![n0, n2]⟩ : Shape)) :
    mulf (multiReduction .maximumf [1] ⟨2, ![n0, n2]⟩ (absf v) 0xFF800000#32 h hφ hacc) (broadcast ⟨2, ![n0, n2]⟩ (Scalar.ofBits (F := Ideal) .f32 0x37924925#32)) j =
      Finset.univ.fold max (Ideal.ofBits .f32 4286578688#32) (fun k : Fin n1 => max (v (ix3 (j 0) k (j 1))) (-(v (ix3 (j 0) k (j 1)))))
        * Ideal.ofBits .f32 932333861#32 := by
  pointwise []
  rfl

section Pay
variable (g x : Vec Ideal S12800x12288 .bf16)

theorem pay3 (j : S12800x12288.Idx) : k0_pay3 g x j = g j * fR (x j) := by
  have e1 := IdealRules.named_const.ideal_named_scalar (φ := .f32) Cert.ReferenceIdeal.κ "c" 0x3D372713#32 _ rfl
  have e2 := IdealRules.named_const.ideal_named_scalar (φ := .f32) Cert.ReferenceIdeal.κ "k" 0x3F4C422A#32 _ rfl
  have e3 := IdealRules.named_const.ideal_named_scalar (φ := .f32) Cert.ReferenceIdeal.κ "three_c" 0x3E095D4F#32 _ rfl
  pointwise [k0_pay3, fR, uR, e1, e2, e3, K]

theorem pay3_at (R : Fin 12800) (C : Fin 12288) : k0_pay3 g x (ValueIdx.ix2 R C) = dA g x R C := by
  rw [pay3, ← fK_eq_fR]; rfl

theorem pay4 (j : S12288.Idx) : k0_pay4 g x j = ∑ R : Fin 12800, dA g x R (j 0) := by
  pointwise [k0_pay4]
  exact Finset.sum_congr rfl fun R _ => pay3_at g x R (j 0)

theorem pay5_raw (j : S12800x96x128.Idx) :
    k0_pay5 g x j = k0_pay3 g x (ix2 (j 0) ⟨(j 1).val * 128 + (j 2).val, by
      have h1 : (j 1).val < 96 := (j 1).isLt
      have h2 : (j 2).val < 128 := (j 2).isLt
      omega⟩) := by
  pointwise [k0_pay5]

theorem pay5 (R : Fin 12800) (j : Fin 96) (l : Fin 128) : k0_pay5 g x (ValueIdx.ix3 R j l) = dA g x R (cc j l) := by
  refine (pay5_raw g x _).trans ((pay3_at g x R _).trans (congrArg (dA g x R) (Fin.ext ?_)))
  show j.val * 128 + l.val = 128 * j.val + l.val
  omega

theorem pay6 (j : S12800x96.Idx) : k0_pay6 g x j = vRow (dA g x) (j 0) (j 1) := by
  have h0 : k0_pay6 g x = mulf (multiReduction .maximumf [2] S12800x96 (absf (k0_pay5 g x)) 0xFF800000#32 reduces_S12800x96x128_S12800x96 (.inl rfl) rfl)
      (broadcast S12800x96 (Scalar.ofBits (F := Ideal) .f32 0x37924925#32)) := by
    unfold k0_pay6; with_reducible rfl
  rw [h0]
  refine (max3_a2 (n0 := 12800) (n1 := 96) (n2 := 128) (k0_pay5 g x) reduces_S12800x96x128_S12800x96 (.inl rfl) rfl j).trans ?_
  have h : (fun k : Fin 128 => k0_pay5 g x (ix3 (j 0) (j 1) k)) = fun k => dA g x (j 0) (cc (j 1) k) := funext fun k => pay5 g x (j 0) (j 1) k
  exact congrArg vmax h

theorem pay8 (v : FVec Ideal S12800x96 .f32) (j : S12800x96.Idx) : k0_pay8 v k0_pay7 j = expR (v j) := by
  have e := IdealRules.named_const.ideal_named_scalar (φ := .f32) Cert.ReferenceIdeal.κ "log2_e" 1069066811#32 _ rfl
  pointwise [k0_pay8, k0_pay7, expR, e]

theorem pay9 (v : FVec Ideal S12800x96 .f32) (j : S12800x96.Idx) : k0_pay9 v k0_pay7 j = scR (v j) :=
  congrArg Ideal.exp2 (pay8 v j)

theorem clampq_comm (d iv : EReal) :
    min (Ideal.ofBits .f32 1197473792#32) (max (Ideal.ofBits .f32 3344957440#32) (d * iv)) = clampq d iv := by
  unfold clampq; rw [min_comm, max_comm]

theorem pay10_raw (d : FVec Ideal S12800x96x128 .f32) (v w : FVec Ideal S12800x96 .f32) (R : Fin 12800) (C : Fin 12288) :
    k0_pay10 d v w (ValueIdx.ix2 R C)
      = min (Ideal.ofBits .f32 1197473792#32) (max (Ideal.ofBits .f32 3344957440#32)
        (d (ValueIdx.ix3 R (ct C) (cl C)) * Ideal.exp2 (Ideal.ofBits .f32 0#32 - k0_pay8 v w (ValueIdx.ix2 R (ct C))))) := by
  refine (show ∀ j : S12800x12288.Idx, k0_pay10 d v w j = min (Ideal.ofBits .f32 1197473792#32) (max (Ideal.ofBits .f32 3344957440#32)
        (d (ix3 (j 0) (ct (j 1)) (cl (j 1))) * FloatOps.exp2 (F := Ideal) (φ := .f32) (Ideal.ofBits .f32 0#32 - k0_pay8 v w (ix2 (j 0) (ct (j 1)))))) from fun j => ?_) _
  pointwise [k0_pay10]
  rfl

theorem row_codes (y : S12800x12288.Idx) :
    k0_pay10 (k0_pay5 g x) (k0_pay6 g x) k0_pay7 y = resRC ivR (dA g x) y := by
  obtain ⟨R, C, rfl⟩ : ∃ (R : Fin 12800) (C : Fin 12288), y = ValueIdx.ix2 R C := ⟨y 0, y 1, funext fun a => by
    match a with
    | ⟨0, _⟩ => rfl
    | ⟨1, _⟩ => rfl⟩
  rw [pay10_raw, pay5, cc_ct, pay8, pay6, clampq_comm]
  rfl

theorem row_scales (y : S12800x96.Idx) : k0_pay9 (k0_pay6 g x) k0_pay7 y = resRS scR (dA g x) y := by
  rw [pay9, pay6]; rfl

theorem pay11_raw (d : FVec Ideal S12800x12288 .f32) (t : Fin 100) (r : Fin 128) (C : Fin 12288) :
    k0_pay11 d (ValueIdx.ix3 t r C) = d (ValueIdx.ix2 (rr t r) C) := by
  have h : ∀ j : S100x128x12288.Idx, k0_pay11 d j = d (ix2 ⟨(j 0).val * 128 + (j 1).val, by
      have h1 : (j 0).val < 100 := (j 0).isLt
      have h2 : (j 1).val < 128 := (j 1).isLt
      omega⟩ (j 2)) := by
    intro j
    pointwise [k0_pay11]
  refine (h _).trans (congrArg (fun R : Fin 12800 => d (ValueIdx.ix2 R C)) (Fin.ext ?_))
  show t.val * 128 + r.val = 128 * t.val + r.val
  omega

/-- The column groups' largest magnitudes over 57344. -/
def vC : FVec Ideal S100x12288 .f32 :=
  mulf (multiReduction .maximumf [1] S100x12288 (absf (k0_pay11 (k0_pay3 g x))) 0xFF800000#32 reduces_S100x128x12288_S100x12288 (.inl rfl) rfl)
    (broadcast S100x12288 (Scalar.ofBits .f32 0x37924925#32))

theorem vcol (j : S100x12288.Idx) : vC g x j = vCol (dA g x) (j 0) (j 1) := by
  unfold vC
  refine (max3_a1 (n0 := 100) (n1 := 128) (n2 := 12288) (k0_pay11 (k0_pay3 g x)) reduces_S100x128x12288_S100x12288 (.inl rfl) rfl j).trans ?_
  have h : (fun k : Fin 128 => k0_pay11 (k0_pay3 g x) (ix3 (j 0) k (j 1))) = fun k => dA g x (rr (j 0) k) (j 1) :=
    funext fun k => (pay11_raw (k0_pay3 g x) (j 0) k (j 1)).trans (pay3_at g x (rr (j 0) k) (j 1))
  exact congrArg vmax h

/-- The exponents of the groups. -/
def expC (v : FVec Ideal S100x12288 .f32) : FVec Ideal S100x12288 .f32 :=
  select (cmpf .olt v (broadcast S100x12288 (Scalar.ofBits .f32 0x00800000#32))) (broadcast S100x12288 (Scalar.ofBits (F := Ideal) .f32 0x00000000#32))
    (addf (floor (mulf (log v) (broadcast S100x12288 (Named.named Cert.ReferenceIdeal.κ "log2_e" 1069066811#32))))
      (broadcast S100x12288 (Scalar.ofBits .f32 0x3F800000#32)))

theorem expC_apply (v : FVec Ideal S100x12288 .f32) (j : S100x12288.Idx) : expC v j = expR (v j) := by
  have e := IdealRules.named_const.ideal_named_scalar (φ := .f32) Cert.ReferenceIdeal.κ "log2_e" 1069066811#32 _ rfl
  pointwise [expC, expR, e]

theorem pay12 (j : S100x12288.Idx) : k0_pay12 (k0_pay3 g x) j = expR (vCol (dA g x) (j 0) (j 1)) := by
  have h : k0_pay12 (k0_pay3 g x) = expC (vC g x) := by
    unfold k0_pay12 expC vC; with_reducible rfl
  rw [h, expC_apply, vcol]

theorem pay1_raw (d : FVec Ideal S100x128x12288 .f32) (a b : FVec Ideal S100x12288 .f32) (C : Fin 12288) (R : Fin 12800) :
    k0_pay1 d a b (ValueIdx.ix2 C R)
      = min (Ideal.ofBits .f32 1197473792#32) (max (Ideal.ofBits .f32 3344957440#32)
        (d (ValueIdx.ix3 (rt R) (rl R) C) * Ideal.exp2 (b (ValueIdx.ix2 (rt R) C) - a (ValueIdx.ix2 (rt R) C)))) := by
  refine (show ∀ j : S12288x12800.Idx, k0_pay1 d a b j = min (Ideal.ofBits .f32 1197473792#32) (max (Ideal.ofBits .f32 3344957440#32)
        (d (ix3 (rt (j 1)) (rl (j 1)) (j 0)) * FloatOps.exp2 (F := Ideal) (φ := .f32) (b (ix2 (rt (j 1)) (j 0)) - a (ix2 (rt (j 1)) (j 0))))) from fun j => ?_) _
  pointwise [k0_pay1]
  rfl

theorem col_codes (y : S12288x12800.Idx) :
    k0_pay1 (k0_pay11 (k0_pay3 g x)) (k0_pay12 (k0_pay3 g x)) k0_pay14 y = resCC ivR (dA g x) y := by
  obtain ⟨C, R, rfl⟩ : ∃ (C : Fin 12288) (R : Fin 12800), y = ValueIdx.ix2 C R := ⟨y 0, y 1, funext fun a => by
    match a with
    | ⟨0, _⟩ => rfl
    | ⟨1, _⟩ => rfl⟩
  rw [pay1_raw, pay11_raw, rr_rt, pay3_at, pay12, clampq_comm]
  rfl

theorem pay2_raw (d : FVec Ideal S100x12288 .f32) (y : S12288x100.Idx) : k0_pay2 d y = d (ix2 (y 1) (y 0)) := by
  pointwise [k0_pay2]

theorem pay13_eq (d : FVec Ideal S12800x12288 .f32) : k0_pay13 d = exp2 (k0_pay12 d) := by
  unfold k0_pay13; with_reducible rfl

theorem exp2_at {s : Shape} (e : FVec Ideal s .f32) (j : s.Idx) : exp2 e j = Ideal.exp2 (e j) := rfl

theorem col_scales (y : S12288x100.Idx) : k0_pay2 (k0_pay13 (k0_pay3 g x)) y = resCS scR (dA g x) y := by
  rw [pay2_raw, pay13_eq, exp2_at, pay12]; rfl

end Pay

end Cert.Alg.Ref

end
-- ==== Proof.Value.RefRun.lean ====
/- The reference's run over the extended reals: its five result arrays, as functions of its two arguments. -/
module

public import proofs.«01_k».proof.Proof.Value.Ref
public import Idealize.ShloMosaic.Lib.Claim

@[expose] public section

set_option maxRecDepth 16384

noncomputable section

namespace Cert.Alg.Ref

open Idealize.ShloMosaic Cert.ReferenceIdeal Cert.ReferenceIdeal.Gen
open Idealize.ShloMosaic.Pipeline

variable (m : (ℓ : Loc nD τ sig) → Buf (Elt Ideal) ℓ) (c : Dev nD)

/-- The gradient, -/
def aG : Vec Ideal S12800x12288 .bf16 := m ((c.tc : Thread nD τ).loc main_arg0)
/-- and the points of the derivative. -/
def aX : Vec Ideal S12800x12288 .bf16 := m ((c.tc : Thread nD τ).loc main_arg1)

/-- The single block of each window starts at the array's start. -/
theorem ix0 : ∀ (t : Fin cfg0.N) (a : Fin 2), win0_0.index t a = 0 := by decide +kernel
theorem ix1 : ∀ (t : Fin cfg0.N) (a : Fin 2), win0_1.index t a = 0 := by decide +kernel
theorem ix2 : ∀ (t : Fin cfg0.N) (a : Fin 1), win0_2.index t a = 0 := by decide +kernel
theorem ix3 : ∀ (t : Fin cfg0.N) (a : Fin 2), win0_3.index t a = 0 := by decide +kernel
theorem ix4 : ∀ (t : Fin cfg0.N) (a : Fin 2), win0_4.index t a = 0 := by decide +kernel
theorem ix5 : ∀ (t : Fin cfg0.N) (a : Fin 2), win0_5.index t a = 0 := by decide +kernel
theorem ix6 : ∀ (t : Fin cfg0.N) (a : Fin 2), win0_6.index t a = 0 := by decide +kernel

theorem ib0 (t : Fin cfg0.N) : iblk m c 0 t = aG m c := by
  funext y
  blk_ext [iblk, V, aG, ix0 t 0, ix0 t 1]

theorem ib1 (t : Fin cfg0.N) : iblk m c 1 t = aX m c := by
  funext y
  blk_ext [iblk, V, aX, ix1 t 0, ix1 t 1]

theorem ld_whole (X : Vec Ideal S12800x12288 .bf16) : View.ld X r0_0 = X := View.ld_unit_lit _ X (by decide)

theorem pay15_eq (g x : Vec Ideal S12800x12288 .bf16) : k0_pay15 g x = Gen.k0_pay3 g x := by
  unfold k0_pay15
  rw [ld_whole, ld_whole]

theorem pay16_eq (g x : Vec Ideal S12800x12288 .bf16) : k0_pay16 g x = Gen.k0_pay6 g x := by
  unfold k0_pay16
  rw [ld_whole, ld_whole]

theorem pay17_eq (g x : Vec Ideal S12800x12288 .bf16) : k0_pay17 g x = k0_pay7 := by
  unfold k0_pay17; with_reducible rfl

theorem arr2 : (dats m 0 c).arrAt 2 cfg0.N = resB (dA (aG m c) (aX m c)) := by
  refine (dats m 0 c).arrAt_eq_of_covers 2 _ (by decide +kernel) fun t hf y => ?_
  blk_simp; rw [after0_2]; frame_out
  simp only [ib0, ib1, pay15_eq, pay16_eq, pay17_eq]
  refine (pay4 (aG m c) (aX m c) y).trans ?_
  have e : ((cfg0.win 2).blk t).view.emb y = y := by blk_ext [ix2 t 0]
  exact congrArg (resB (dA (aG m c) (aX m c))) e.symm

theorem arr3 : (dats m 0 c).arrAt 3 cfg0.N = resRC ivR (dA (aG m c) (aX m c)) := by
  refine (dats m 0 c).arrAt_eq_of_covers 3 _ (by decide +kernel) fun t hf y => ?_
  blk_simp; rw [after0_3]; frame_out
  simp only [ib0, ib1, pay15_eq, pay16_eq, pay17_eq]
  refine (row_codes (aG m c) (aX m c) y).trans ?_
  have e : ((cfg0.win 3).blk t).view.emb y = y := by blk_ext [ix3 t 0, ix3 t 1]
  exact congrArg (resRC ivR (dA (aG m c) (aX m c))) e.symm

theorem arr4 : (dats m 0 c).arrAt 4 cfg0.N = resRS scR (dA (aG m c) (aX m c)) := by
  refine (dats m 0 c).arrAt_eq_of_covers 4 _ (by decide +kernel) fun t hf y => ?_
  blk_simp; rw [after0_4]; frame_out
  simp only [ib0, ib1, pay15_eq, pay16_eq, pay17_eq]
  refine (row_scales (aG m c) (aX m c) y).trans ?_
  have e : ((cfg0.win 4).blk t).view.emb y = y := by blk_ext [ix4 t 0, ix4 t 1]
  exact congrArg (resRS scR (dA (aG m c) (aX m c))) e.symm

theorem arr5 : (dats m 0 c).arrAt 5 cfg0.N = resCC ivR (dA (aG m c) (aX m c)) := by
  refine (dats m 0 c).arrAt_eq_of_covers 5 _ (by decide +kernel) fun t hf y => ?_
  blk_simp; rw [after0_5]; frame_out
  simp only [ib0, ib1, pay15_eq, pay16_eq, pay17_eq]
  refine (col_codes (aG m c) (aX m c) y).trans ?_
  have e : ((cfg0.win 5).blk t).view.emb y = y := by blk_ext [ix5 t 0, ix5 t 1]
  exact congrArg (resCC ivR (dA (aG m c) (aX m c))) e.symm

theorem arr6 : (dats m 0 c).arrAt 6 cfg0.N = resCS scR (dA (aG m c) (aX m c)) := by
  refine (dats m 0 c).arrAt_eq_of_covers 6 _ (by decide +kernel) fun t hf y => ?_
  blk_simp; rw [after0_6]; frame_out
  simp only [ib0, ib1, pay15_eq, pay16_eq, pay17_eq]
  refine (col_scales (aG m c) (aX m c) y).trans ?_
  have e : ((cfg0.win 6).blk t).view.emb y = y := by blk_ext [ix6 t 0, ix6 t 1]
  exact congrArg (resCS scR (dA (aG m c) (aX m c))) e.symm

/-- The reference ends with its five results at these values and its arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = resB (dA (aG m c) (aX m c))
    ∧ r.2.mem ((c.tc : Thread nD τ).loc main_v0_1) = resRC ivR (dA (aG m c) (aX m c))
    ∧ r.2.mem ((c.tc : Thread nD τ).loc main_v0_2) = resRS scR (dA (aG m c) (aX m c))
    ∧ r.2.mem ((c.tc : Thread nD τ).loc main_v0_3) = resCC ivR (dA (aG m c) (aX m c))
    ∧ r.2.mem ((c.tc : Thread nD τ).loc main_v0_4) = resCS scR (dA (aG m c) (aX m c))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run _ _ _).mono (fun _ h c => ⟨((h.1 c).1 2).trans (arr2 m c), ((h.1 c).1 3).trans (arr3 m c), ((h.1 c).1 4).trans (arr4 m c),
    ((h.1 c).1 5).trans (arr5 m c), ((h.1 c).1 6).trans (arr6 m c), h.2 c⟩) (θ_run_and (run_main m ρ) (unchanged m ρ))

end Cert.Alg.Ref

end
-- ==== Proof.Value.Agree.lean ====
/- The precondition makes every product of the gradient and the derivative a bounded real, so every group's largest magnitude
   over 57344 is below 2^126, where the two scales and the two inverses agree: the five results agree. -/
module

public import proofs.«01_k».proof.Pre_finite_grad
public import proofs.«01_k».proof.Proof.Value.Spec
public import Idealize.ShloMosaic.Lib.ReduceAll

@[expose] public section

set_option maxRecDepth 16384

noncomputable section

namespace Cert.Alg

open Idealize.ShloMosaic

/-- A real at most 2^130 in size. -/
def Bounded (d : EReal) : Prop := ∃ r : ℝ, d = r ∧ |r| ≤ (2 : ℝ) ^ (130 : ℕ)

theorem ofBits_bfmax : Ideal.ofBits .f32 0x7F7F0000#32 ≤ (((2 : ℝ) ^ (128 : ℕ) : ℝ) : EReal) := by
  have h : Ideal.ofBits .f32 0x7F7F0000#32 = (((255 : ℝ) * 2 ^ (120 : ℕ) : ℝ) : EReal) := by
    simp [Ideal.ofBits, Ideal.ieee]
    norm_num
    rw [← EReal.coe_pow, ← EReal.coe_pow, ← EReal.coe_mul, ← EReal.coe_mul]
    congr 1; norm_num
  rw [h, EReal.coe_le_coe_iff]; norm_num

theorem ofBits_recip : ∃ r : ℝ, Ideal.ofBits .f32 932333861#32 = r ∧ 0 ≤ r ∧ r ≤ 1 / 2 ^ (14 : ℕ) := by
  have h : Ideal.ofBits .f32 932333861#32 = (((9586981 : ℝ) / 2 ^ (39 : ℕ) : ℝ) : EReal) := by
    simp [Ideal.ofBits, Ideal.ieee]
    norm_num
    rw [← EReal.coe_mul]
    congr 1; norm_num
  exact ⟨_, h, by positivity, by norm_num⟩

theorem ofBits_ninf : Ideal.ofBits .f32 4286578688#32 = ⊥ := by
  simp [Ideal.ofBits, Ideal.ieee]

/-- What the precondition says of one gradient. -/
theorem grad_bound [Cert.Pre_finite_grad.Facts] (g x : FVec Ideal Cert.Pre_finite_grad.S12800x12288 .bf16)
    (h : Cert.Pre_finite_grad.fn (F := Ideal) g x = fun _ => 1#1) (i : Cert.Pre_finite_grad.S12800x12288.Idx) :
    max (g i : EReal) (-(g i : EReal)) ≤ Ideal.ofBits .f32 0x7F7F0000#32 := by
  have e := Host.reduce_andi_all _ _ _ _ _ (congrFun h (fun a => a.elim0)) i
  by_contra hn
  have e' : Ideal.cmp .ole (max (g i) (-(g i))) (Ideal.ofBits .f32 0x7F7F0000#32) = 1#1 := e
  simp [Ideal.cmp, hn] at e'

/-- A value at most 2^128 in size times the derivative is a bounded real. -/
theorem mul_bounded (a x : EReal) (hb : max a (-a) ≤ (((2 : ℝ) ^ (128 : ℕ) : ℝ) : EReal)) : Bounded (a * fK x) := by
  obtain ⟨f, hf, hf2⟩ := fK_bound x
  have h1 := (le_max_left _ _).trans hb
  have h2 := (le_max_right _ _).trans hb
  induction a with
  | bot => rw [EReal.neg_bot] at h2; exact absurd h2 (not_le.mpr (EReal.coe_lt_top _))
  | top => exact absurd h1 (not_le.mpr (EReal.coe_lt_top _))
  | coe a =>
    rw [EReal.coe_le_coe_iff] at h1
    rw [← EReal.coe_neg, EReal.coe_le_coe_iff] at h2
    refine ⟨a * f, by rw [hf, EReal.coe_mul], ?_⟩
    have ha : |a| ≤ (2 : ℝ) ^ (128 : ℕ) := abs_le.mpr ⟨by linarith, h1⟩
    rw [abs_mul]
    calc |a| * |f| ≤ (2 : ℝ) ^ (128 : ℕ) * (5 / 2) := mul_le_mul ha hf2 (abs_nonneg f) (by positivity)
      _ ≤ (2 : ℝ) ^ (130 : ℕ) := by norm_num

/-- Under the precondition every product of the gradient and the derivative is a bounded real. -/
theorem dA_bounded [Cert.Pre_finite_grad.Facts] (g x : FVec Ideal Cert.Pre_finite_grad.S12800x12288 .bf16)
    (h : Cert.Pre_finite_grad.fn (F := Ideal) g x = fun _ => 1#1) (R : Fin 12800) (C : Fin 12288) : Bounded (dA g x R C) :=
  mul_bounded _ _ ((grad_bound g x h (ValueIdx.ix2 R C)).trans ofBits_bfmax)

/-- A group of bounded reals has its largest magnitude over 57344 between 0 and 2^126. -/
theorem vmax_bounds (f : Fin 128 → EReal) (h : ∀ k, Bounded (f k)) : 0 ≤ vmax f ∧ vmax f < (((2 : ℝ) ^ (126 : ℤ) : ℝ) : EReal) := by
  unfold vmax
  rw [ofBits_ninf]
  have hlo : (0 : EReal) ≤ Finset.univ.fold max ⊥ (fun k => max (f k) (-(f k))) := by
    refine (Finset.le_fold_max _).mpr (.inr ⟨0, Finset.mem_univ _, ?_⟩)
    obtain ⟨r, hr, -⟩ := h 0
    rw [hr]
    rcases le_total 0 r with h0 | h0
    · exact le_max_of_le_left (EReal.coe_nonneg.mpr h0)
    · refine le_max_of_le_right ?_
      rw [← EReal.coe_neg]; exact EReal.coe_nonneg.mpr (by linarith)
  have hhi : Finset.univ.fold max ⊥ (fun k => max (f k) (-(f k))) ≤ (((2 : ℝ) ^ (130 : ℕ) : ℝ) : EReal) := by
    refine (Finset.fold_max_le _).mpr ⟨bot_le, fun k _ => ?_⟩
    obtain ⟨r, hr, hb⟩ := h k
    have hb' := abs_le.mp hb
    rw [hr, ← EReal.coe_neg]
    exact max_le (EReal.coe_le_coe_iff.mpr hb'.2) (EReal.coe_le_coe_iff.mpr (by linarith [hb'.1]))
  obtain ⟨k, hk, hk0, hk1⟩ := ofBits_recip
  rw [hk]
  generalize Finset.univ.fold max ⊥ (fun k => max (f k) (-(f k))) = M at hlo hhi
  induction M with
  | bot => exact absurd hlo (by simp)
  | top => exact absurd hhi (not_le.mpr (EReal.coe_lt_top _))
  | coe M =>
    rw [EReal.coe_nonneg] at hlo
    rw [EReal.coe_le_coe_iff] at hhi
    rw [← EReal.coe_mul, EReal.coe_nonneg, EReal.coe_lt_coe_iff]
    refine ⟨mul_nonneg hlo hk0, ?_⟩
    calc M * k ≤ (2 : ℝ) ^ (130 : ℕ) * (1 / 2 ^ (14 : ℕ)) := mul_le_mul hhi hk1 hk0 (by positivity)
      _ < (2 : ℝ) ^ (126 : ℤ) := by norm_num

section
variable {D : Fin 12800 → Fin 12288 → EReal} (h : ∀ R C, Bounded (D R C))
include h

theorem row_eq (R : Fin 12800) (j : Fin 96) : scK (vRow D R j) = scR (vRow D R j) ∧ ivK (vRow D R j) = ivR (vRow D R j) :=
  have b := vmax_bounds (fun l => D R (cc j l)) fun _ => h _ _
  scale_eq _ b.1 b.2

theorem col_eq (t : Fin 100) (C : Fin 12288) : scK (vCol D t C) = scR (vCol D t C) ∧ ivK (vCol D t C) = ivR (vCol D t C) :=
  have b := vmax_bounds (fun r => D (rr t r) C) fun _ => h _ _
  scale_eq _ b.1 b.2

/-- The row codes, -/
theorem resRC_eq : resRC ivK D = resRC ivR D := funext fun y => congrArg (clampq _) (row_eq h _ _).2
/-- the row scales, -/
theorem resRS_eq : resRS scK D = resRS scR D := funext fun y => (row_eq h _ _).1
/-- the column codes -/
theorem resCC_eq : resCC ivK D = resCC ivR D := funext fun y => congrArg (clampq _) (col_eq h _ _).2
/-- and the column scales are the same by either scale. -/
theorem resCS_eq : resCS scK D = resCS scR D := funext fun y => (col_eq h _ _).1

end

end Cert.Alg

end
-- ==== Proof.lean ====
/- The proof of the certificate's claim: the frames of the kernel, of its idealisation and of the idealised reference,
   the constants named in the idealised kernel, and the equality of the two programs' five results over the extended reals. -/
module

public import proofs.«01_k».proof.Defs
public import proofs.«01_k».proof.Proof.Gen.Kernel
public import proofs.«01_k».proof.Proof.Kernel.Run
public import proofs.«01_k».proof.Proof.Gen.KernelIdeal
public import proofs.«01_k».proof.Proof.KernelIdeal.Run
public import proofs.«01_k».proof.Proof.Gen.ReferenceIdeal
public import proofs.«01_k».proof.Proof.Gen.ReferenceIdeal.Frame
public import proofs.«01_k».proof.Proof.Gen.Pre_finite_grad
public import proofs.«01_k».proof.Proof.Value.KerRun
public import proofs.«01_k».proof.Proof.Value.RefRun
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The frame of the kernel, -/
theorem frame_p : Cert.quiescent_Kernel := fun m g _ => Cert.Kernel.Hand.frame m g

/-- of its idealisation, -/
theorem frame_pi : Cert.quiescent_KernelIdeal := fun m g _ => Cert.KernelIdeal.Hand.frame m g

/-- and of the idealised reference. -/
theorem frame_ri : Cert.quiescent_ReferenceIdeal := fun m g _ => Cert.ReferenceIdeal.Gen.frame m g

/-- The constants named in the idealised kernel are the ones the kernel spells. -/
theorem preserves : Cert.preserves_Kernel_KernelIdeal :=
  ⟨IdealRules.named_const.statement Cert.KernelIdeal.κ "kc" .f32 0x3D122279#32 (((Real.sqrt (2 * Real.pi⁻¹)) * (8943 / 200000) : ℝ) : EReal) rfl,
   IdealRules.named_const.statement Cert.KernelIdeal.κ "k" .f32 0x3F4C422A#32 ((Real.sqrt (2 * Real.pi⁻¹) : ℝ) : EReal) rfl,
   IdealRules.named_const.statement Cert.KernelIdeal.κ "kc_three_halves" .f32 0x3D5B33B6#32 ((((3 / 2) * (Real.sqrt (2 * Real.pi⁻¹))) * (8943 / 200000) : ℝ) : EReal) rfl,
   IdealRules.named_const.statement Cert.KernelIdeal.κ "half_k" .f32 0x3ECC422A#32 (((1 / 2) * (Real.sqrt (2 * Real.pi⁻¹)) : ℝ) : EReal) rfl⟩

/-- From memories that agree on the two arguments, of which the gradient is bounded, the idealised kernel and the idealised
    reference end with the same five results. -/
theorem algebraic [hP : Cert.Pre_finite_grad.Facts] : Cert.algebraic_KernelIdeal_ReferenceIdeal_pre_finite_grad := by
  intro m g m' g' hpre hargs
  refine ⟨fun c => Cert.Alg.resB (Cert.Alg.Ker.D m c), fun c => Cert.Alg.resRC Cert.Alg.ivK (Cert.Alg.Ker.D m c),
    fun c => Cert.Alg.resRS Cert.Alg.scK (Cert.Alg.Ker.D m c), fun c => Cert.Alg.resCC Cert.Alg.ivK (Cert.Alg.Ker.D m c),
    fun c => Cert.Alg.resCS Cert.Alg.scK (Cert.Alg.Ker.D m c), Cert.Alg.Ker.run m g, ?_⟩
  refine (θ_run _ _ _).mono (fun r h c => ?_) (Cert.Alg.Ref.run m' g')
  have hb : ∀ R C, Cert.Alg.Bounded (Cert.Alg.Ker.D m c R C) := Cert.Alg.dA_bounded _ _ (hpre c)
  have hD : Cert.Alg.dA (Cert.Alg.Ref.aG m' c) (Cert.Alg.Ref.aX m' c) = Cert.Alg.Ker.D m c :=
    congrArg₂ Cert.Alg.dA (hargs c).1 (hargs c).2
  have h := h c
  rw [hD] at h
  exact ⟨h.1, h.2.1.trans (Cert.Alg.resRC_eq hb).symm, h.2.2.1.trans (Cert.Alg.resRS_eq hb).symm, h.2.2.2.1.trans (Cert.Alg.resCC_eq hb).symm,
    h.2.2.2.2.1.trans (Cert.Alg.resCS_eq hb).symm, h.2.2.2.2.2⟩

theorem claim : Cert.Claim :=
  ⟨Cert.Kernel.Gen.facts, Cert.KernelIdeal.Gen.facts, Cert.ReferenceIdeal.Gen.facts, Cert.Pre_finite_grad.Gen.facts, frame_p, frame_pi,
    fun m g _ => Cert.KernelIdeal.Hand.frame m g, frame_ri, fun m g _ => Cert.ReferenceIdeal.Gen.frame m g, preserves,
    algebraic (hP := Cert.Pre_finite_grad.Gen.facts)⟩

end Cert.Proof

end
